-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x512x1536 : Shape := ⟨3, ![24, 512, 1536]⟩
abbrev S5120x1536 : Shape := ⟨2, ![5120, 1536]⟩
abbrev S5120 : Shape := ⟨1, ![5120]⟩
abbrev S48x1536 : Shape := ⟨2, ![48, 1536]⟩
abbrev S5120x48 : Shape := ⟨2, ![5120, 48]⟩
abbrev S12288x1536 : Shape := ⟨2, ![12288, 1536]⟩
abbrev S1x5120 : Shape := ⟨2, ![1, 5120]⟩
abbrev S12288x5120 : Shape := ⟨2, ![12288, 5120]⟩
abbrev S12288x1 : Shape := ⟨2, ![12288, 1]⟩
abbrev S512x1536 : Shape := ⟨2, ![512, 1536]⟩
abbrev S512x5120 : Shape := ⟨2, ![512, 5120]⟩
abbrev S512x1 : Shape := ⟨2, ![512, 1]⟩
abbrev S256x48 : Shape := ⟨2, ![256, 48]⟩
abbrev S256x1536 : Shape := ⟨2, ![256, 1536]⟩
abbrev S1x256 : Shape := ⟨2, ![1, 256]⟩
abbrev S8x256 : Shape := ⟨2, ![8, 256]⟩
abbrev S256x8 : Shape := ⟨2, ![256, 8]⟩
abbrev S256x1 : Shape := ⟨2, ![256, 1]⟩
abbrev S256x128 : Shape := ⟨2, ![256, 128]⟩
abbrev S128x256 : Shape := ⟨2, ![128, 256]⟩
abbrev S256 : Shape := ⟨1, ![256]⟩
abbrev S512 : Shape := ⟨1, ![512]⟩
abbrev S512x48 : Shape := ⟨2, ![512, 48]⟩
abbrev S512x512 : Shape := ⟨2, ![512, 512]⟩
abbrev S1x512 : Shape := ⟨2, ![1, 512]⟩

abbrev nBuf : Space → Nat
  | .hbm => 13
  | .vmem => 15
  | .smem => 0
  | _ => 0

abbrev bufTy : (tb : Table) → Fin (tcTables nBuf tb) → BufTy
  | .hbm, ⟨0, _⟩ => ⟨S24x512x1536, .bf16⟩
  | .hbm, ⟨1, _⟩ => ⟨S5120x1536, .fp8e4m3⟩
  | .hbm, ⟨2, _⟩ => ⟨S5120, .f32⟩
  | .hbm, ⟨3, _⟩ => ⟨S48x1536, .bf16⟩
  | .hbm, ⟨4, _⟩ => ⟨S5120x48, .bf16⟩
  | .hbm, ⟨5, _⟩ => ⟨S5120, .f32⟩
  | .hbm, ⟨6, _⟩ => ⟨S12288x1536, .bf16⟩
  | .hbm, ⟨7, _⟩ => ⟨S1x5120, .f32⟩
  | .hbm, ⟨8, _⟩ => ⟨S1x5120, .f32⟩
  | .hbm, ⟨9, _⟩ => ⟨S12288x5120, .bf16⟩
  | .hbm, ⟨10, _⟩ => ⟨S1x5120, .f32⟩
  | .hbm, ⟨11, _⟩ => ⟨S12288x1536, .fp8e4m3⟩
  | .hbm, ⟨12, _⟩ => ⟨S12288x1, .f32⟩
  | .local _ .vmem, ⟨0, _⟩ => ⟨S512x1536, .bf16⟩
  | .local _ .vmem, ⟨1, _⟩ => ⟨S512x1536, .bf16⟩
  | .local _ .vmem, ⟨2, _⟩ => ⟨S5120x1536, .fp8e4m3⟩
  | .local _ .vmem, ⟨3, _⟩ => ⟨S1x5120, .f32⟩
  | .local _ .vmem, ⟨4, _⟩ => ⟨S48x1536, .bf16⟩
  | .local _ .vmem, ⟨5, _⟩ => ⟨S5120x48, .bf16⟩
  | .local _ .vmem, ⟨6, _⟩ => ⟨S1x5120, .f32⟩
  | .local _ .vmem, ⟨7, _⟩ => ⟨S512x5120, .bf16⟩
  | .local _ .vmem, ⟨8, _⟩ => ⟨S512x5120, .bf16⟩
  | .local _ .vmem, ⟨9, _⟩ => ⟨S1x5120, .f32⟩
  | .local _ .vmem, ⟨10, _⟩ => ⟨S512x1536, .fp8e4m3⟩
  | .local _ .vmem, ⟨11, _⟩ => ⟨S512x1536, .fp8e4m3⟩
  | .local _ .vmem, ⟨12, _⟩ => ⟨S512x1, .f32⟩
  | .local _ .vmem, ⟨13, _⟩ => ⟨S512x1, .f32⟩
  | .local _ .vmem, ⟨14, _⟩ => ⟨S1x5120, .f32⟩
  | _, _ => ⟨S24x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_159 : BitVec 32 := 0#32
  let c20_i32 : BitVec 32 := 20#32
  let v306 : BitVec 32 := Scalar.addi c0_i32_159 c20_i32
  let c1_i32_160 : BitVec 32 := 1#32
  ⟨c0_i32_159, v306, c1_i32_160⟩
def k0_off1 (k0_t1 : Fin k0_t1_loop.trips) : Fin 2 → Nat :=
  let c0_i32_159 : BitVec 32 := 0#32
  let c1_i32_160 : BitVec 32 := 1#32
  let arg12 : BitVec 32 := Scf.iv c0_i32_159 c1_i32_160 k0_t1
  let c256_i32 : BitVec 32 := 256#32
  let v307 : BitVec 32 := Scalar.muli arg12 c256_i32
  let v308 : Index := Scalar.indexCast v307
  let c0_162 : Index := 0#32
  ![v308.toNat, 0]
def k0_off2 (k0_t1 : Fin k0_t1_loop.trips) : Fin 2 → Nat :=
  let c0_166 : Index := 0#32
  let c0_i32_159 : BitVec 32 := 0#32
  let c1_i32_160 : BitVec 32 := 1#32
  let arg12 : BitVec 32 := Scf.iv c0_i32_159 c1_i32_160 k0_t1
  let c256_i32 : BitVec 32 := 256#32
  let v307 : BitVec 32 := Scalar.muli arg12 c256_i32
  let v312 : Index := Scalar.indexCast v307
  ![0, v312.toNat]
def k0_off3 (k0_t1 : Fin k0_t1_loop.trips) : Fin 2 → Nat :=
  let c0_i32_159 : BitVec 32 := 0#32
  let c1_i32_160 : BitVec 32 := 1#32
  let arg12 : BitVec 32 := Scf.iv c0_i32_159 c1_i32_160 k0_t1
  let c256_i32 : BitVec 32 := 256#32
  let v307 : BitVec 32 := Scalar.muli arg12 c256_i32
  let v319 : Index := Scalar.indexCast v307
  let c0_167 : Index := 0#32
  ![v319.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x48 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S24x512x1536 : Shape := ⟨3, ![24, 512, 1536]⟩
abbrev S5120x1536 : Shape := ⟨2, ![5120, 1536]⟩
abbrev S5120 : Shape := ⟨1, ![5120]⟩
abbrev S48x1536 : Shape := ⟨2, ![48, 1536]⟩
abbrev S5120x48 : Shape := ⟨2, ![5120, 48]⟩
abbrev S12288x1536 : Shape := ⟨2, ![12288, 1536]⟩
abbrev S1x5120 : Shape := ⟨2, ![1, 5120]⟩
abbrev S12288x5120 : Shape := ⟨2, ![12288, 5120]⟩
abbrev S12288x1 : Shape := ⟨2, ![12288, 1]⟩
abbrev S5120x1 : Shape := ⟨2, ![5120, 1]⟩
abbrev S12288 : Shape := ⟨1, ![12288]⟩
abbrev S1x254 : Shape := ⟨2, ![1, 254]⟩
abbrev S12288x254 : Shape := ⟨2, ![12288, 254]⟩
abbrev S12288x48 : Shape := ⟨2, ![12288, 48]⟩

abbrev nBuf : Space → Nat
  | .hbm => 13
  | .vmem => 10
  | .smem => 0
  | _ => 0

abbrev bufTy : (tb : Table) → Fin (tcTables nBuf tb) → BufTy
  | .hbm, ⟨0, _⟩ => ⟨S24x512x1536, .bf16⟩
  | .hbm, ⟨1, _⟩ => ⟨S5120x1536, .fp8e4m3⟩
  | .hbm, ⟨2, _⟩ => ⟨S5120, .f32⟩
  | .hbm, ⟨3, _⟩ => ⟨S48x1536, .bf16⟩
  | .hbm, ⟨4, _⟩ => ⟨S5120x48, .bf16⟩
  | .hbm, ⟨5, _⟩ => ⟨S5120, .f32⟩
  | .hbm, ⟨6, _⟩ => ⟨S12288x1536, .bf16⟩
  | .hbm, ⟨7, _⟩ => ⟨S1x5120, .f32⟩
  | .hbm, ⟨8, _⟩ => ⟨S1x5120, .f32⟩
  | .hbm, ⟨9, _⟩ => ⟨S12288x5120, .bf16⟩
  | .hbm, ⟨10, _⟩ => ⟨S1x5120, .f32⟩
  | .hbm, ⟨11, _⟩ => ⟨S12288x1536, .fp8e4m3⟩
  | .hbm, ⟨12, _⟩ => ⟨S12288x1, .f32⟩
  | .local _ .vmem, ⟨0, _⟩ => ⟨S12288x1536, .bf16⟩
  | .local _ .vmem, ⟨1, _⟩ => ⟨S5120x1536, .fp8e4m3⟩
  | .local _ .vmem, ⟨2, _⟩ => ⟨S1x5120, .f32⟩
  | .local _ .vmem, ⟨3, _⟩ => ⟨S48x1536, .bf16⟩
  | .local _ .vmem, ⟨4, _⟩ => ⟨S5120x48, .bf16⟩
  | .local _ .vmem, ⟨5, _⟩ => ⟨S1x5120, .f32⟩
  | .local _ .vmem, ⟨6, _⟩ => ⟨S12288x5120, .bf16⟩
  | .local _ .vmem, ⟨7, _⟩ => ⟨S1x5120, .f32⟩
  | .local _ .vmem, ⟨8, _⟩ => ⟨S12288x1536, .fp8e4m3⟩
  | .local _ .vmem, ⟨9, _⟩ => ⟨S12288x1, .f32⟩
  | _, _ => ⟨S24x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x48 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.LoopVals.lean ====
/- What the kernel's norm loop leaves behind: after its twenty trips the column-norm row and the
   magnitude-over-norm row each hold, column by column, one function of the weight blocks. -/
module

public import proofs.«01_k».proof.Proof.Gen.KernelIdeal.Frame
public import proofs.«01_k».proof.Proof.Gen.KernelIdeal.Loops
public import Idealize.ShloMosaic.Lib.Pipeline.Value
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem
open Idealize.ShloMosaic.ValueIdx (idx2_lt0 idx2_lt1)

variable {F : FTy → Type} [FloatOps F]

/-- Rows 256k to 256k+255 of the lora_B block. -/
def rowsB (x : Vec F S5120x48 .bf16) (k : Fin 20) : Vec F S256x48 .bf16 :=
  fun j => x (ix2 ⟨256 * k.val + (j 0).val, by have := idx2_lt0 j; omega⟩ (j 1))

/-- Rows 256k to 256k+255 of the code block. -/
def rowsW (x : Vec F S5120x1536 .fp8e4m3) (k : Fin 20) : Vec F S256x1536 .fp8e4m3 :=
  fun j => x (ix2 ⟨256 * k.val + (j 0).val, by have := idx2_lt0 j; omega⟩ (j 1))

/-- Columns 256k to 256k+255 of a row. -/
def colsR (x : Vec F S1x5120 .f32) (k : Fin 20) : Vec F S1x256 .f32 :=
  fun j => x (ix2 (j 0) ⟨256 * k.val + (j 1).val, by have := idx2_lt1 j; omega⟩)

/-- The column norms of chunk k, from the code block, the weight scales, lora_A and lora_B. -/
def cnChunk (x1 : Vec F S5120x1536 .fp8e4m3) (x2 : Vec F S1x5120 .f32) (x3 : Vec F S48x1536 .bf16)
    (x4 : Vec F S5120x48 .bf16) (k : Fin 20) : FVec F S1x256 .f32 :=
  k0_pay2 (rowsB x4 k) x3 (colsR x2 k) (rowsW x1 k)

/-- The chunk a column lies in. -/
def chunkOf (j : S1x5120.Idx) : Fin 20 := ⟨(j 1).val / 256, by have := idx2_lt1 j; omega⟩

/-- A column's place within its chunk. -/
def withinOf (j : S1x5120.Idx) : S1x256.Idx :=
  ix2 (n0 := 1) (n1 := 256) (j 0) ⟨(j 1).val % 256, Nat.mod_lt _ (by norm_num)⟩

/-- The whole row of column norms. -/
def cnRow (x1 : Vec F S5120x1536 .fp8e4m3) (x2 : Vec F S1x5120 .f32) (x3 : Vec F S48x1536 .bf16)
    (x4 : Vec F S5120x48 .bf16) : Vec F S1x5120 .f32 :=
  fun j => cnChunk x1 x2 x3 x4 (chunkOf j) (withinOf j)

/-- The whole row of magnitude over column norm. -/
def gRow (x1 : Vec F S5120x1536 .fp8e4m3) (x2 : Vec F S1x5120 .f32) (x3 : Vec F S48x1536 .bf16)
    (x4 : Vec F S5120x48 .bf16) (x5 : Vec F S1x5120 .f32) : Vec F S1x5120 .f32 :=
  fun j => k0_pay3 (cnChunk x1 x2 x3 x4 (chunkOf j)) (colsR x5 (chunkOf j)) (withinOf j)

/-- The loop runs twenty trips. -/
theorem trips_eq : k0_t1_loop.trips = 20 := by decide

/-- A trip's number among twenty. -/
def tr (k : Fin k0_t1_loop.trips) : Fin 20 := ⟨k.val, trips_eq ▸ k.isLt⟩

/-- The loop's trip k is at the k-th 256 rows. -/
theorem off1_eq : ∀ k : Fin k0_t1_loop.trips, k0_off1 k = ![256 * k.val, 0] := by decide +kernel
/-- The loop's trip k is at the k-th 256 columns. -/
theorem off2_eq : ∀ k : Fin k0_t1_loop.trips, k0_off2 k = ![0, 256 * k.val] := by decide +kernel
/-- The loop's trip k is at the k-th 256 rows. -/
theorem off3_eq : ∀ k : Fin k0_t1_loop.trips, k0_off3 k = ![256 * k.val, 0] := by decide +kernel

/-- The trip's offset in rows. -/
theorem off1_0 (k : Fin k0_t1_loop.trips) : k0_off1 k 0 = 256 * k.val := congrFun (off1_eq k) 0
/-- The trip's offset in columns. -/
theorem off1_1 (k : Fin k0_t1_loop.trips) : k0_off1 k 1 = 0 := congrFun (off1_eq k) 1
/-- The trip's offset in rows. -/
theorem off2_0 (k : Fin k0_t1_loop.trips) : k0_off2 k 0 = 0 := congrFun (off2_eq k) 0
/-- The trip's offset in columns. -/
theorem off2_1 (k : Fin k0_t1_loop.trips) : k0_off2 k 1 = 256 * k.val := congrFun (off2_eq k) 1
/-- The trip's offset in rows. -/
theorem off3_0 (k : Fin k0_t1_loop.trips) : k0_off3 k 0 = 256 * k.val := congrFun (off3_eq k) 0
/-- The trip's offset in columns. -/
theorem off3_1 (k : Fin k0_t1_loop.trips) : k0_off3 k 1 = 0 := congrFun (off3_eq k) 1

/-- Loading chunk k's rows of lora_B. -/
theorem ld_off1 (x : Vec F S5120x48 .bf16) (k : Fin k0_t1_loop.trips) (h) :
    View.ld x (Rect.unit (s := S5120x48) (k0_off1 k) S256x48.size h) = rowsB x (tr k) := by
  funext j
  refine congrArg x (funext fun a => Fin.ext ?_)
  match a with
  | ⟨0, _⟩ => show k0_off1 k 0 + 1 * (j 0).val = 256 * k.val + (j 0).val; rw [off1_0]; omega
  | ⟨1, _⟩ => show k0_off1 k 1 + 1 * (j 1).val = (j 1).val; rw [off1_1]; omega

/-- Loading chunk k's rows of the codes. -/
theorem ld_off3 (x : Vec F S5120x1536 .fp8e4m3) (k : Fin k0_t1_loop.trips) (h) :
    View.ld x (Rect.unit (s := S5120x1536) (k0_off3 k) S256x1536.size h) = rowsW x (tr k) := by
  funext j
  refine congrArg x (funext fun a => Fin.ext ?_)
  match a with
  | ⟨0, _⟩ => show k0_off3 k 0 + 1 * (j 0).val = 256 * k.val + (j 0).val; rw [off3_0]; omega
  | ⟨1, _⟩ => show k0_off3 k 1 + 1 * (j 1).val = (j 1).val; rw [off3_1]; omega

/-- Loading chunk k's columns of a row. -/
theorem ld_off2 (x : Vec F S1x5120 .f32) (k : Fin k0_t1_loop.trips) (h) :
    View.ld x (Rect.unit (s := S1x5120) (k0_off2 k) S1x256.size h) = colsR x (tr k) := by
  funext j
  refine congrArg x (funext fun a => Fin.ext ?_)
  match a with
  | ⟨0, _⟩ => show k0_off2 k 0 + 1 * (j 0).val = (j 0).val; rw [off2_0]; omega
  | ⟨1, _⟩ => show k0_off2 k 1 + 1 * (j 1).val = 256 * k.val + (j 1).val; rw [off2_1]; omega

/-- The two-coordinate origin is zero in each coordinate. -/
theorem zero2 : (![0, 0] : Fin 2 → Nat) = fun _ => 0 := by funext i; fin_cases i <;> rfl

/-- What trip k writes: its chunk of column norms, and its chunk of magnitude over norm. -/
theorem tripL_eq (𝒱 : Variants) (c : Dev nD) (bd : Option 𝒱.V) (i : grid0.Coords) (arg1 : Memref sig .tc .vmem S512x1536 .bf16) (harg1 : arg1.IsWhole) (arg2 : Memref sig .tc .vmem S5120x1536 .fp8e4m3) (harg2 : arg2.IsWhole) (arg3 : Memref sig .tc .vmem S1x5120 .f32) (harg3 : arg3.IsWhole) (arg4 : Memref sig .tc .vmem S48x1536 .bf16) (harg4 : arg4.IsWhole) (arg5 : Memref sig .tc .vmem S5120x48 .bf16) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S1x5120 .f32) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S1x5120 .f32) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 k
      = ([⟨Rect.unit (s := S1x5120) (k0_off2 k) S1x256.size (k0_off2_inb i k k0_h1),
            cnChunk (arg2.view.read (Elt F) X_arg2) (arg3.view.read (Elt F) X_arg3) (arg4.view.read (Elt F) X_arg4) (arg5.view.read (Elt F) X_arg5) (tr k)⟩],
         [⟨Rect.unit (s := S1x5120) (k0_off2 k) S1x256.size (k0_off2_inb i k k0_h1),
            k0_pay3 (cnChunk (arg2.view.read (Elt F) X_arg2) (arg3.view.read (Elt F) X_arg3) (arg4.view.read (Elt F) X_arg4) (arg5.view.read (Elt F) X_arg5) (tr k)) (colsR (arg6.view.read (Elt F) X_arg6) (tr k))⟩]) := by
  unfold cnChunk
  rw [← ld_off1 _ k (k0_off1_inb i k k0_h1), ← ld_off3 _ k (k0_off3_inb i k k0_h1), ← ld_off2 (arg3.view.read (Elt F) X_arg3) k (k0_off2_inb i k k0_h1),
    ← ld_off2 (arg6.view.read (Elt F) X_arg6) k (k0_off2_inb i k k0_h1), ← View.ld_unit_zero zero2 inb_S48x1536_S48x1536_0_0 (arg4.view.read (Elt F) X_arg4)]
  unfold tripL_k0_t1 trip_k0_t1
  rfl

/-- Where chunk k's column x sits in the row: in chunk k, at place x. -/
theorem emb_off2 (k : Fin k0_t1_loop.trips) (h) (x : S1x256.Idx) :
    chunkOf ((Rect.unit (s := S1x5120) (k0_off2 k) S1x256.size h).emb x) = tr k ∧
    withinOf ((Rect.unit (s := S1x5120) (k0_off2 k) S1x256.size h).emb x) = x := by
  have hx := idx2_lt1 (n0 := 1) (n1 := 256) x
  have e1 : (((Rect.unit (s := S1x5120) (k0_off2 k) S1x256.size h).emb x) 1).val = 256 * k.val + (x 1).val := by
    show k0_off2 k 1 + 1 * (x 1).val = _
    rw [off2_1]; omega
  have e0 : (((Rect.unit (s := S1x5120) (k0_off2 k) S1x256.size h).emb x) 0).val = (x 0).val := by
    show k0_off2 k 0 + 1 * (x 0).val = _
    rw [off2_0]; omega
  refine ⟨Fin.ext ?_, ?_⟩
  · show (((Rect.unit (s := S1x5120) (k0_off2 k) S1x256.size h).emb x) 1).val / 256 = k.val
    rw [e1]; omega
  · funext a
    refine Fin.ext ?_
    match a with
    | ⟨0, _⟩ => exact e0
    | ⟨1, _⟩ =>
      show (((Rect.unit (s := S1x5120) (k0_off2 k) S1x256.size h).emb x) 1).val % 256 = (x 1).val
      rw [e1]; omega

/-- A column of chunk k is one the trip's store covers. -/
theorem mem_off2 (k : Fin k0_t1_loop.trips) (h) (y : S1x5120.Idx) (hy : chunkOf y = tr k) :
    y ∈ (Rect.unit (s := S1x5120) (k0_off2 k) S1x256.size h).set := by
  have e : (Rect.unit (s := S1x5120) (k0_off2 k) S1x256.size h).emb (withinOf y) = y := by
    have hk : (y 1).val / 256 = k.val := congrArg Fin.val hy
    funext a
    refine Fin.ext ?_
    match a with
    | ⟨0, _⟩ => show k0_off2 k 0 + 1 * (y 0).val = (y 0).val; rw [off2_0]; omega
    | ⟨1, _⟩ =>
      show k0_off2 k 1 + 1 * ((y 1).val % 256) = (y 1).val
      rw [off2_1]
      omega
  rw [← e]
  exact (Rect.unit (s := S1x5120) (k0_off2 k) S1x256.size h).toLoadRect.idx_mem (withinOf y)

/-- The pieces of the first n trips all agree with the two rows, and cover the first n chunks. -/
theorem pb_pieces (𝒱 : Variants) (c : Dev nD) (bd : Option 𝒱.V) (i : grid0.Coords) (arg1 : Memref sig .tc .vmem S512x1536 .bf16) (harg1 : arg1.IsWhole) (arg2 : Memref sig .tc .vmem S5120x1536 .fp8e4m3) (harg2 : arg2.IsWhole) (arg3 : Memref sig .tc .vmem S1x5120 .f32) (harg3 : arg3.IsWhole) (arg4 : Memref sig .tc .vmem S48x1536 .bf16) (harg4 : arg4.IsWhole) (arg5 : Memref sig .tc .vmem S5120x48 .bf16) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S1x5120 .f32) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S1x5120 .f32) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (n : Nat) (hn : n ≤ 20) :
    ((∀ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 n).1, ∀ x, p.2 x = cnRow (arg2.view.read (Elt F) X_arg2) (arg3.view.read (Elt F) X_arg3) (arg4.view.read (Elt F) X_arg4) (arg5.view.read (Elt F) X_arg5) (p.1.emb x)) ∧
     (∀ y : S1x5120.Idx, (chunkOf y).val < n → ∃ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 n).1, y ∈ p.1.set)) ∧
    ((∀ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 n).2, ∀ x, p.2 x = gRow (arg2.view.read (Elt F) X_arg2) (arg3.view.read (Elt F) X_arg3) (arg4.view.read (Elt F) X_arg4) (arg5.view.read (Elt F) X_arg5) (arg6.view.read (Elt F) X_arg6) (p.1.emb x)) ∧
     (∀ y : S1x5120.Idx, (chunkOf y).val < n → ∃ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 n).2, y ∈ p.1.set)) := by
  induction n with
  | zero =>
    refine ⟨⟨fun p hp => absurd hp (List.not_mem_nil), fun y hy => absurd hy (Nat.not_lt_zero _)⟩,
      ⟨fun p hp => absurd hp (List.not_mem_nil), fun y hy => absurd hy (Nat.not_lt_zero _)⟩⟩
  | succ n ih =>
    obtain ⟨⟨a1, a2⟩, ⟨b1, b2⟩⟩ := ih (by omega)
    have hk : n < k0_t1_loop.trips := by rw [trips_eq]; omega
    have hs := (pb_k0_t1_succ (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 ⟨n, hk⟩).trans (by rw [tripL_eq] : _ = (_, _))
    have hs' : pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 (n + 1) = _ := hs
    rw [hs']
    clear hs hs'
    have cov : ∀ y : S1x5120.Idx, (chunkOf y).val < n + 1 → ¬ (chunkOf y).val < n → chunkOf y = tr ⟨n, hk⟩ :=
      fun y h1 h2 => Fin.ext (show (chunkOf y).val = n by omega)
    refine ⟨⟨fun p hp x => ?_, fun y hy => ?_⟩, ⟨fun p hp x => ?_, fun y hy => ?_⟩⟩
    · rcases List.mem_cons.mp hp with rfl | hp
      · show _ = cnChunk (arg2.view.read (Elt F) X_arg2) (arg3.view.read (Elt F) X_arg3) (arg4.view.read (Elt F) X_arg4) (arg5.view.read (Elt F) X_arg5) (chunkOf _) (withinOf _)
        rw [(emb_off2 ⟨n, hk⟩ (k0_off2_inb i ⟨n, hk⟩ k0_h1) x).1, (emb_off2 ⟨n, hk⟩ (k0_off2_inb i ⟨n, hk⟩ k0_h1) x).2]
      · exact a1 p hp x
    · by_cases h : (chunkOf y).val < n
      · obtain ⟨p, hp, hy'⟩ := a2 y h; exact ⟨p, List.mem_cons_of_mem _ hp, hy'⟩
      · exact ⟨_, List.mem_cons_self, mem_off2 ⟨n, hk⟩ (k0_off2_inb i ⟨n, hk⟩ k0_h1) y (cov y hy h)⟩
    · rcases List.mem_cons.mp hp with rfl | hp
      · show _ = k0_pay3 (cnChunk (arg2.view.read (Elt F) X_arg2) (arg3.view.read (Elt F) X_arg3) (arg4.view.read (Elt F) X_arg4) (arg5.view.read (Elt F) X_arg5) (chunkOf _)) (colsR (arg6.view.read (Elt F) X_arg6) (chunkOf _)) (withinOf _)
        rw [(emb_off2 ⟨n, hk⟩ (k0_off2_inb i ⟨n, hk⟩ k0_h1) x).1, (emb_off2 ⟨n, hk⟩ (k0_off2_inb i ⟨n, hk⟩ k0_h1) x).2]
      · exact b1 p hp x
    · by_cases h : (chunkOf y).val < n
      · obtain ⟨p, hp, hy'⟩ := b2 y h; exact ⟨p, List.mem_cons_of_mem _ hp, hy'⟩
      · exact ⟨_, List.mem_cons_self, mem_off2 ⟨n, hk⟩ (k0_off2_inb i ⟨n, hk⟩ k0_h1) y (cov y hy h)⟩

/-- After the loop the first row holds the column norms, whatever it held before. -/
theorem loop_cn (𝒱 : Variants) (c : Dev nD) (bd : Option 𝒱.V) (i : grid0.Coords) (arg1 : Memref sig .tc .vmem S512x1536 .bf16) (harg1 : arg1.IsWhole) (arg2 : Memref sig .tc .vmem S5120x1536 .fp8e4m3) (harg2 : arg2.IsWhole) (arg3 : Memref sig .tc .vmem S1x5120 .f32) (harg3 : arg3.IsWhole) (arg4 : Memref sig .tc .vmem S48x1536 .bf16) (harg4 : arg4.IsWhole) (arg5 : Memref sig .tc .vmem S5120x48 .bf16) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S1x5120 .f32) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S1x5120 .f32) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 k0_t1_loop.trips).1)
      = cnRow (arg2.view.read (Elt F) X_arg2) (arg3.view.read (Elt F) X_arg3) (arg4.view.read (Elt F) X_arg4) (arg5.view.read (Elt F) X_arg5) := by
  have h := (pb_pieces (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 k0_t1_loop.trips (by rw [trips_eq])).1
  have c : ∀ y : S1x5120.Idx, ∃ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 k0_t1_loop.trips).1, y ∈ p.1.set :=
    fun y => h.2 y (by rw [trips_eq]; exact (chunkOf y).isLt)
  rw [View.read_writes_eq_canon _ _ _ c]
  exact funext fun y => View.canon_apply_of_pieces _ _ h.1 y (c y)

/-- After the loop the second row holds magnitude over column norm, whatever it held before. -/
theorem loop_g (𝒱 : Variants) (c : Dev nD) (bd : Option 𝒱.V) (i : grid0.Coords) (arg1 : Memref sig .tc .vmem S512x1536 .bf16) (harg1 : arg1.IsWhole) (arg2 : Memref sig .tc .vmem S5120x1536 .fp8e4m3) (harg2 : arg2.IsWhole) (arg3 : Memref sig .tc .vmem S1x5120 .f32) (harg3 : arg3.IsWhole) (arg4 : Memref sig .tc .vmem S48x1536 .bf16) (harg4 : arg4.IsWhole) (arg5 : Memref sig .tc .vmem S5120x48 .bf16) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S1x5120 .f32) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S1x5120 .f32) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f : BufTy.Contents (Elt F) arg11.view.ty) :
    arg11.view.read (Elt F) (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 k0_t1_loop.trips).2)
      = gRow (arg2.view.read (Elt F) X_arg2) (arg3.view.read (Elt F) X_arg3) (arg4.view.read (Elt F) X_arg4) (arg5.view.read (Elt F) X_arg5) (arg6.view.read (Elt F) X_arg6) := by
  have h := (pb_pieces (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 k0_t1_loop.trips (by rw [trips_eq])).2
  have c : ∀ y : S1x5120.Idx, ∃ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg5 X_arg6 k0_t1_loop.trips).2, y ∈ p.1.set :=
    fun y => h.2 y (by rw [trips_eq]; exact (chunkOf y).isLt)
  rw [View.read_writes_eq_canon _ _ _ c]
  exact funext fun y => View.canon_apply_of_pieces _ _ h.1 y (c y)

end Cert.KernelIdeal.Value

end
-- ==== Proof.BlockOut.lean ====
/- What one grid point of the kernel leaves in its output blocks, as functions of its input blocks and of the
   magnitude-over-norm row. -/
module

public import proofs.«01_k».proof.Proof.LoopVals

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

variable {F : FTy → Type} [FloatOps F]

/-- The whole of the x block, and of the other blocks loaded or stored whole. -/
abbrev rX : Rect S512x1536 := Rect.unit (s := S512x1536) ![0, 0] S512x1536.size inb_S512x1536_S512x1536_0_0
/-- All of lora_A. -/
abbrev rA : Rect S48x1536 := Rect.unit (s := S48x1536) ![0, 0] S48x1536.size inb_S48x1536_S48x1536_0_0
/-- All of a block of scales. -/
abbrev rS : Rect S512x1 := Rect.unit (s := S512x1) ![0, 0] S512x1.size inb_S512x1_S512x1_0_0

/-- The biased exponent of each token's scaled maximum. -/
def expV (x : Vec F S512x1536 .bf16) : IVec S512x1 32 := k0_pay8 (k0_pay5 x) (k0_pay6 x) (k0_pay7 x)
/-- Whether it is zero. -/
def flagV (x : Vec F S512x1536 .bf16) : IVec S512x1 1 := k0_pay9 (k0_pay5 x) (k0_pay6 x) (k0_pay7 x)
/-- Each token's scale. -/
def scaleV (x : Vec F S512x1536 .bf16) : FVec F S512x1 .f32 := k0_pay11 (expV x) (flagV x)
/-- The codes of the tokens. -/
def codesV (x : Vec F S512x1536 .bf16) : FVec F S512x1536 .fp8e4m3 := k0_pay12 (k0_pay4 x) (expV x) (flagV x)
/-- The tokens through lora_A. -/
def hV (x : Vec F S512x1536 .bf16) (a : Vec F S48x1536 .bf16) : FVec F S512x48 .bf16 := k0_pay13 (k0_pay4 x) a

/-- The ten column chunks of the y block, last first. -/
def out6L (x0 : Vec F S512x1536 .bf16) (x1 : Vec F S5120x1536 .fp8e4m3) (x2 : Vec F S1x5120 .f32)
    (x3 : Vec F S48x1536 .bf16) (x4 : Vec F S5120x48 .bf16) (g : Vec F S1x5120 .f32) :
    List (View.Piece (Elt F) S512x5120 .bf16) :=
  [
   ⟨Rect.unit (s := S512x5120) ![0, 4608] S512x512.size inb_S512x5120_S512x512_0_4608,
    k0_pay1 (scaleV (View.ld x0 rX)) (hV (View.ld x0 rX) (View.ld x3 rA)) (k0_pay31 (codesV (View.ld x0 rX)) (View.ld x1 (Rect.unit (s := S5120x1536) ![4608, 0] S512x1536.size inb_S5120x1536_S512x1536_4608_0))) (View.ld x4 (Rect.unit (s := S5120x48) ![4608, 0] S512x48.size inb_S5120x48_S512x48_4608_0)) (constant S512x512 .f32 0x00000000#32) (View.ld x2 (Rect.unit (s := S1x5120) ![0, 4608] S1x512.size inb_S1x5120_S1x512_0_4608)) (View.ld g (Rect.unit (s := S1x5120) ![0, 4608] S1x512.size inb_S1x5120_S1x512_0_4608))⟩,
   ⟨Rect.unit (s := S512x5120) ![0, 4096] S512x512.size inb_S512x5120_S512x512_0_4096,
    k0_pay30 (scaleV (View.ld x0 rX)) (codesV (View.ld x0 rX)) (hV (View.ld x0 rX) (View.ld x3 rA)) (View.ld x1 (Rect.unit (s := S5120x1536) ![4096, 0] S512x1536.size inb_S5120x1536_S512x1536_4096_0)) (View.ld x4 (Rect.unit (s := S5120x48) ![4096, 0] S512x48.size inb_S5120x48_S512x48_4096_0)) (View.ld x2 (Rect.unit (s := S1x5120) ![0, 4096] S1x512.size inb_S1x5120_S1x512_0_4096)) (View.ld g (Rect.unit (s := S1x5120) ![0, 4096] S1x512.size inb_S1x5120_S1x512_0_4096))⟩,
   ⟨Rect.unit (s := S512x5120) ![0, 3584] S512x512.size inb_S512x5120_S512x512_0_3584,
    k0_pay29 (k0_pay27 (hV (View.ld x0 rX) (View.ld x3 rA)) (View.ld x4 (Rect.unit (s := S5120x48) ![3584, 0] S512x48.size inb_S5120x48_S512x48_3584_0))) (k0_pay28 (scaleV (View.ld x0 rX)) (codesV (View.ld x0 rX)) (View.ld x1 (Rect.unit (s := S5120x1536) ![3584, 0] S512x1536.size inb_S5120x1536_S512x1536_3584_0))) (View.ld x2 (Rect.unit (s := S1x5120) ![0, 3584] S1x512.size inb_S1x5120_S1x512_0_3584)) (View.ld g (Rect.unit (s := S1x5120) ![0, 3584] S1x512.size inb_S1x5120_S1x512_0_3584))⟩,
   ⟨Rect.unit (s := S512x5120) ![0, 3072] S512x512.size inb_S512x5120_S512x512_0_3072,
    k0_pay26 (scaleV (View.ld x0 rX)) (codesV (View.ld x0 rX)) (hV (View.ld x0 rX) (View.ld x3 rA)) (View.ld x1 (Rect.unit (s := S5120x1536) ![3072, 0] S512x1536.size inb_S5120x1536_S512x1536_3072_0)) (View.ld x4 (Rect.unit (s := S5120x48) ![3072, 0] S512x48.size inb_S5120x48_S512x48_3072_0)) (View.ld x2 (Rect.unit (s := S1x5120) ![0, 3072] S1x512.size inb_S1x5120_S1x512_0_3072)) (View.ld g (Rect.unit (s := S1x5120) ![0, 3072] S1x512.size inb_S1x5120_S1x512_0_3072))⟩,
   ⟨Rect.unit (s := S512x5120) ![0, 2560] S512x512.size inb_S512x5120_S512x512_0_2560,
    k0_pay25 (k0_pay22 (hV (View.ld x0 rX) (View.ld x3 rA)) (View.ld x4 (Rect.unit (s := S5120x48) ![2560, 0] S512x48.size inb_S5120x48_S512x48_2560_0))) (k0_pay23 (scaleV (View.ld x0 rX)) (codesV (View.ld x0 rX)) (View.ld x1 (Rect.unit (s := S5120x1536) ![2560, 0] S512x1536.size inb_S5120x1536_S512x1536_2560_0))) (k0_pay24 (View.ld x2 (Rect.unit (s := S1x5120) ![0, 2560] S1x512.size inb_S1x5120_S1x512_0_2560))) (View.ld g (Rect.unit (s := S1x5120) ![0, 2560] S1x512.size inb_S1x5120_S1x512_0_2560))⟩,
   ⟨Rect.unit (s := S512x5120) ![0, 2048] S512x512.size inb_S512x5120_S512x512_0_2048,
    k0_pay21 (scaleV (View.ld x0 rX)) (codesV (View.ld x0 rX)) (hV (View.ld x0 rX) (View.ld x3 rA)) (View.ld x1 (Rect.unit (s := S5120x1536) ![2048, 0] S512x1536.size inb_S5120x1536_S512x1536_2048_0)) (View.ld x4 (Rect.unit (s := S5120x48) ![2048, 0] S512x48.size inb_S5120x48_S512x48_2048_0)) (View.ld x2 (Rect.unit (s := S1x5120) ![0, 2048] S1x512.size inb_S1x5120_S1x512_0_2048)) (View.ld g (Rect.unit (s := S1x5120) ![0, 2048] S1x512.size inb_S1x5120_S1x512_0_2048))⟩,
   ⟨Rect.unit (s := S512x5120) ![0, 1536] S512x512.size inb_S512x5120_S512x512_0_1536,
    k0_pay20 (k0_pay18 (scaleV (View.ld x0 rX)) (codesV (View.ld x0 rX)) (View.ld x1 (Rect.unit (s := S5120x1536) ![1536, 0] S512x1536.size inb_S5120x1536_S512x1536_1536_0)) (View.ld x2 (Rect.unit (s := S1x5120) ![0, 1536] S1x512.size inb_S1x5120_S1x512_0_1536))) (k0_pay19 (hV (View.ld x0 rX) (View.ld x3 rA)) (View.ld x4 (Rect.unit (s := S5120x48) ![1536, 0] S512x48.size inb_S5120x48_S512x48_1536_0))) (View.ld g (Rect.unit (s := S1x5120) ![0, 1536] S1x512.size inb_S1x5120_S1x512_0_1536))⟩,
   ⟨Rect.unit (s := S512x5120) ![0, 1024] S512x512.size inb_S512x5120_S512x512_0_1024,
    k0_pay17 (scaleV (View.ld x0 rX)) (codesV (View.ld x0 rX)) (hV (View.ld x0 rX) (View.ld x3 rA)) (View.ld x1 (Rect.unit (s := S5120x1536) ![1024, 0] S512x1536.size inb_S5120x1536_S512x1536_1024_0)) (View.ld x4 (Rect.unit (s := S5120x48) ![1024, 0] S512x48.size inb_S5120x48_S512x48_1024_0)) (View.ld x2 (Rect.unit (s := S1x5120) ![0, 1024] S1x512.size inb_S1x5120_S1x512_0_1024)) (View.ld g (Rect.unit (s := S1x5120) ![0, 1024] S1x512.size inb_S1x5120_S1x512_0_1024))⟩,
   ⟨Rect.unit (s := S512x5120) ![0, 512] S512x512.size inb_S512x5120_S512x512_0_512,
    k0_pay16 (k0_pay15 (k0_pay4 (View.ld x0 rX)) (scaleV (View.ld x0 rX)) (codesV (View.ld x0 rX)) (View.ld x3 rA) (View.ld x1 (Rect.unit (s := S5120x1536) ![512, 0] S512x1536.size inb_S5120x1536_S512x1536_512_0)) (View.ld x4 (Rect.unit (s := S5120x48) ![512, 0] S512x48.size inb_S5120x48_S512x48_512_0)) (View.ld x2 (Rect.unit (s := S1x5120) ![0, 512] S1x512.size inb_S1x5120_S1x512_0_512))) (View.ld g (Rect.unit (s := S1x5120) ![0, 512] S1x512.size inb_S1x5120_S1x512_0_512))⟩,
   ⟨Rect.unit (s := S512x5120) ![0, 0] S512x512.size inb_S512x5120_S512x512_0_0,
    k0_pay14 (k0_pay4 (View.ld x0 rX)) (scaleV (View.ld x0 rX)) (codesV (View.ld x0 rX)) (View.ld x3 rA) (View.ld x1 (Rect.unit (s := S5120x1536) ![0, 0] S512x1536.size inb_S5120x1536_S512x1536_0_0)) (View.ld x4 (Rect.unit (s := S5120x48) ![0, 0] S512x48.size inb_S5120x48_S512x48_0_0)) (View.ld x2 (Rect.unit (s := S1x5120) ![0, 0] S1x512.size inb_S1x5120_S1x512_0_0)) (View.ld g (Rect.unit (s := S1x5120) ![0, 0] S1x512.size inb_S1x5120_S1x512_0_0))⟩]

/-- The y block. -/
def out6 (x0 : Vec F S512x1536 .bf16) (x1 : Vec F S5120x1536 .fp8e4m3) (x2 : Vec F S1x5120 .f32)
    (x3 : Vec F S48x1536 .bf16) (x4 : Vec F S5120x48 .bf16) (g : Vec F S1x5120 .f32) : Vec F S512x5120 .bf16 :=
  View.canon (out6L x0 x1 x2 x3 x4 g)

/-- The block of codes. -/
def out8 (x0 : Vec F S512x1536 .bf16) : Vec F S512x1536 .fp8e4m3 :=
  View.canon [⟨rX, codesV (View.ld x0 rX)⟩]

/-- The block of scales. -/
def out9 (x0 : Vec F S512x1536 .bf16) : Vec F S512x1 .f32 :=
  View.canon [⟨rS, scaleV (View.ld x0 rX)⟩]

/-- The ten chunks cover the y block. -/
theorem cover6 (x0 : Vec F S512x1536 .bf16) (x1 : Vec F S5120x1536 .fp8e4m3) (x2 : Vec F S1x5120 .f32)
    (x3 : Vec F S48x1536 .bf16) (x4 : Vec F S5120x48 .bf16) (g : Vec F S1x5120 .f32) (y : S512x5120.Idx) :
    ∃ pc ∈ out6L x0 x1 x2 x3 x4 g, y ∈ pc.1.set :=
  View.cover_of_tiled (out6L x0 x1 x2 x3 x4 g) S512x512.size (by rfl) y

/-- The one store of the codes covers their block. -/
theorem cover8 (w : Vec F S512x1536 .fp8e4m3) (y : S512x1536.Idx) :
    ∃ pc ∈ ([⟨rX, w⟩] : List (View.Piece (Elt F) S512x1536 .fp8e4m3)), y ∈ pc.1.set :=
  ⟨_, List.mem_singleton_self _, View.mem_set_unit_zero zero2 inb_S512x1536_S512x1536_0_0 y⟩

/-- The one store of the scales covers their block. -/
theorem cover9 (w : Vec F S512x1 .f32) (y : S512x1.Idx) :
    ∃ pc ∈ ([⟨rS, w⟩] : List (View.Piece (Elt F) S512x1 .f32)), y ∈ pc.1.set :=
  ⟨_, List.mem_singleton_self _, View.mem_set_unit_zero zero2 inb_S512x1_S512x1_0_0 y⟩

/-- The code block is the codes of the x block. -/
theorem out8_eq (x0 : Vec F S512x1536 .bf16) : out8 x0 = codesV x0 := by
  unfold out8
  rw [View.canon_unit_zero zero2, View.ld_unit_zero zero2]

/-- The scale block is the scales of the x block. -/
theorem out9_eq (x0 : Vec F S512x1536 .bf16) : out9 x0 = scaleV x0 := by
  unfold out9
  rw [View.canon_unit_zero zero2, View.ld_unit_zero zero2]

end Cert.KernelIdeal.Value

end
-- ==== Proof.RunFirst.lean ====
/- The kernel's body run at the first grid point, with every block it leaves named. -/
module

public import proofs.«01_k».proof.Proof.BlockOut
public import Idealize.ShloMosaic.Lib.Pipeline.FrameBody
public import Idealize.ShloMosaic.Lib.Tactic

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: from the six input blocks and any contents elsewhere, it leaves the y block, the
    row of column norms, the codes and the scales, and the scratch row at magnitude over column norm. -/
theorem runA (c : Dev nD) (i : grid0.Coords) (arg1 : Memref sig .tc .vmem S512x1536 .bf16) (harg1 : arg1.IsWhole) (arg2 : Memref sig .tc .vmem S5120x1536 .fp8e4m3) (harg2 : arg2.IsWhole) (arg3 : Memref sig .tc .vmem S1x5120 .f32) (harg3 : arg3.IsWhole) (arg4 : Memref sig .tc .vmem S48x1536 .bf16) (harg4 : arg4.IsWhole) (arg5 : Memref sig .tc .vmem S5120x48 .bf16) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S1x5120 .f32) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S1x5120 .f32) (harg11 : arg11.IsWhole) (hc0 : k0_cond1 i = 1#1)
    (x0 : Vec F S512x1536 .bf16) (x1 : Vec F S5120x1536 .fp8e4m3) (x2 : Vec F S1x5120 .f32) (x3 : Vec F S48x1536 .bf16) (x4 : Vec F S5120x48 .bf16) (x5 : Vec F S1x5120 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 (gRow x1 x2 x3 x4 x5)) ∗ owns (c : Thread nD τ) arg8 fullShare (cnRow x1 x2 x3 x4) ∗ owns (c : Thread nD τ) arg9 fullShare (out8 x0) ∗ owns (c : Thread nD τ) arg10 fullShare (out9 x0) ∗ owns (c : Thread nD τ) arg11 fullShare (gRow x1 x2 x3 x4 x5)) -∗ K ⟨⟩))
          ⊢ wp frame (wpE (defs₀ (F := F)) Variants.none c none) E (cc0_dora_fp8 i arg1 harg1 arg2 harg2 arg3 harg3 arg4 harg4 arg5 harg5 arg6 harg6 arg7 harg7 arg8 harg8 arg9 harg9 arg10 harg10 arg11 harg11) K := by
    intro E K
    simp only [cc0_dora_fp8_eq_skeleton]; unfold cc0_dora_fp8_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    subst hf0; subst hf1; subst hf2; subst hf3; subst hf4; subst hf5
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro
      rw [← loop_g (F := F) Variants.none c none i arg1 harg1 arg2 harg2 arg3 harg3 arg4 harg4 arg5 harg5 arg6 harg6 arg7 harg7 arg8 harg8 arg9 harg9 arg10 harg10 arg11 harg11 hc0 f1 f2 f3 f4 f5 fs0]
      refine Eq.trans ?_ (View.read_writes_eq_canon arg7.view f6 _ (cover6 _ _ _ _ _ _))
      rfl
    isplitl [H7]
    · iexists _; isplitr; swap; · iexact H7
      ipureintro
      exact loop_cn (F := F) Variants.none c none i arg1 harg1 arg2 harg2 arg3 harg3 arg4 harg4 arg5 harg5 arg6 harg6 arg7 harg7 arg8 harg8 arg9 harg9 arg10 harg10 arg11 harg11 hc0 f1 f2 f3 f4 f5 f7
    isplitl [H8]
    · iexists _; isplitr; swap; · iexact H8
      ipureintro
      refine (View.read_writes_eq_canon _ _ _ (cover8 _)).trans ?_
      rfl
    isplitl [H9]
    · iexists _; isplitr; swap; · iexact H9
      ipureintro
      refine (View.read_writes_eq_canon _ _ _ (cover9 _)).trans ?_
      rfl
    iexists _; isplitr; swap; · iexact HS0
    ipureintro
    exact loop_g (F := F) Variants.none c none i arg1 harg1 arg2 harg2 arg3 harg3 arg4 harg4 arg5 harg5 arg6 harg6 arg7 harg7 arg8 harg8 arg9 harg9 arg10 harg10 arg11 harg11 hc0 f1 f2 f3 f4 f5 fs0

end Cert.KernelIdeal.Value

end
-- ==== Proof.RunLater.lean ====
/- The kernel's body run at a later grid point, with every block it leaves named. -/
module

public import proofs.«01_k».proof.Proof.BlockOut
public import Idealize.ShloMosaic.Lib.Pipeline.FrameBody
public import Idealize.ShloMosaic.Lib.Tactic

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at every later point: from the six input blocks and the scratch row it leaves the y block, the codes
    and the scales; the row of column norms and the scratch row stay as they were. -/
theorem runB (c : Dev nD) (i : grid0.Coords) (arg1 : Memref sig .tc .vmem S512x1536 .bf16) (harg1 : arg1.IsWhole) (arg2 : Memref sig .tc .vmem S5120x1536 .fp8e4m3) (harg2 : arg2.IsWhole) (arg3 : Memref sig .tc .vmem S1x5120 .f32) (harg3 : arg3.IsWhole) (arg4 : Memref sig .tc .vmem S48x1536 .bf16) (harg4 : arg4.IsWhole) (arg5 : Memref sig .tc .vmem S5120x48 .bf16) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S1x5120 .f32) (harg8 : arg8.IsWhole) (arg9 : Memref sig .tc .vmem S512x1536 .fp8e4m3) (harg9 : arg9.IsWhole) (arg10 : Memref sig .tc .vmem S512x1 .f32) (harg10 : arg10.IsWhole) (arg11 : Memref sig .tc .vmem S1x5120 .f32) (harg11 : arg11.IsWhole) (hc0 : ¬ k0_cond1 i = 1#1)
    (x0 : Vec F S512x1536 .bf16) (x1 : Vec F S5120x1536 .fp8e4m3) (x2 : Vec F S1x5120 .f32) (x3 : Vec F S48x1536 .bf16) (x4 : Vec F S5120x48 .bf16) (x5 : Vec F S1x5120 .f32) (y g : Vec F S1x5120 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y ∗ (∃ d, owns (c : Thread nD τ) arg9 fullShare d) ∗ (∃ d, owns (c : Thread nD τ) arg10 fullShare d) ∗ owns (c : Thread nD τ) arg11 fullShare g
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 g) ∗ owns (c : Thread nD τ) arg8 fullShare y ∗ owns (c : Thread nD τ) arg9 fullShare (out8 x0) ∗ owns (c : Thread nD τ) arg10 fullShare (out9 x0) ∗ owns (c : Thread nD τ) arg11 fullShare g) -∗ K ⟨⟩))
          ⊢ wp frame (wpE (defs₀ (F := F)) Variants.none c none) E (cc0_dora_fp8 i arg1 harg1 arg2 harg2 arg3 harg3 arg4 harg4 arg5 harg5 arg6 harg6 arg7 harg7 arg8 harg8 arg9 harg9 arg10 harg10 arg11 harg11) K := by
    intro E K
    simp only [cc0_dora_fp8_eq_skeleton]; unfold cc0_dora_fp8_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%fs0, %hfs0, HS0⟩, Hk⟩
    subst hf0; subst hf1; subst hf2; subst hf3; subst hf4; subst hf5; subst hf7; subst hfs0
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro
      refine Eq.trans ?_ (View.read_writes_eq_canon arg7.view f6 _ (cover6 _ _ _ _ _ _))
      rfl
    isplitl [H7]
    · iexists _; isplitr; swap; · iexact H7
      ipureintro
      rfl
    isplitl [H8]
    · iexists _; isplitr; swap; · iexact H8
      ipureintro
      refine (View.read_writes_eq_canon _ _ _ (cover8 _)).trans ?_
      rfl
    isplitl [H9]
    · iexists _; isplitr; swap; · iexact H9
      ipureintro
      refine (View.read_writes_eq_canon _ _ _ (cover9 _)).trans ?_
      rfl
    iexists _; isplitr; swap; · iexact HS0
    ipureintro
    rfl

end Cert.KernelIdeal.Value

end
-- ==== Proof.ValueRun.lean ====
/- The kernel's run with every array it leaves named: the proof data point by point, the body obligation, the launch. -/
module

public import proofs.«01_k».proof.Proof.RunFirst
public import proofs.«01_k».proof.Proof.RunLater
public import Idealize.ShloMosaic.Lib.Pipeline.TableIdle
public import Idealize.ShloMosaic.Lib.Ring
public import Idealize.ShloMosaic.Lib.WordCmp

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch condition at a point. -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-- At every point the body uses x's window. -/
theorem liveAt0_0 : ∀ t : Fin cfg0.N, cfg0.idle 0 (grid0.coords t) = false := fun _ => rfl
/-- At every point the body uses the weight codes' window. -/
theorem liveAt0_1 : ∀ t : Fin cfg0.N, cfg0.idle 1 (grid0.coords t) = false := fun _ => rfl
/-- At every point the body uses the weight scales' window. -/
theorem liveAt0_2 : ∀ t : Fin cfg0.N, cfg0.idle 2 (grid0.coords t) = false := fun _ => rfl
/-- At every point the body uses lora_A's window. -/
theorem liveAt0_3 : ∀ t : Fin cfg0.N, cfg0.idle 3 (grid0.coords t) = false := fun _ => rfl
/-- At every point the body uses lora_B's window. -/
theorem liveAt0_4 : ∀ t : Fin cfg0.N, cfg0.idle 4 (grid0.coords t) = false := fun _ => rfl
/-- At every point the body uses the magnitudes' window. -/
theorem liveAt0_5 : ∀ t : Fin cfg0.N, cfg0.idle 5 (grid0.coords t) = false := fun _ => rfl
/-- At every point the body uses the results' window. -/
theorem liveAt0_6 : ∀ t : Fin cfg0.N, cfg0.idle 6 (grid0.coords t) = false := fun _ => rfl
/-- At every point the body uses the codes' window. -/
theorem liveAt0_8 : ∀ t : Fin cfg0.N, cfg0.idle 8 (grid0.coords t) = false := fun _ => rfl
/-- At every point the body uses the scales' window. -/
theorem liveAt0_9 : ∀ t : Fin cfg0.N, cfg0.idle 9 (grid0.coords t) = false := fun _ => rfl

/-- Each window's staging memref at a point, and its wholeness. -/
abbrev ms0_0 (t : Fin cfg0.N) : Memref sig .tc .vmem S512x1536 .bf16 := win0_0.stage (cfg0.slots t 0)
/-- x's staging memref is whole. -/
abbrev hs0_0 (t : Fin cfg0.N) : (ms0_0 t).IsWhole := hstage0_0 ((cfg0.slots t 0).cast nbuf0_0)
/-- The weight codes' staging memref at a point. -/
abbrev ms0_1 (t : Fin cfg0.N) : Memref sig .tc .vmem S5120x1536 .fp8e4m3 := win0_1.stage (cfg0.slots t 1)
/-- The weight codes' staging memref is whole. -/
abbrev hs0_1 (t : Fin cfg0.N) : (ms0_1 t).IsWhole := hstage0_1 ((cfg0.slots t 1).cast nbuf0_1)
/-- The weight scales' staging memref at a point. -/
abbrev ms0_2 (t : Fin cfg0.N) : Memref sig .tc .vmem S1x5120 .f32 := win0_2.stage (cfg0.slots t 2)
/-- The weight scales' staging memref is whole. -/
abbrev hs0_2 (t : Fin cfg0.N) : (ms0_2 t).IsWhole := hstage0_2 ((cfg0.slots t 2).cast nbuf0_2)
/-- lora_A's staging memref at a point. -/
abbrev ms0_3 (t : Fin cfg0.N) : Memref sig .tc .vmem S48x1536 .bf16 := win0_3.stage (cfg0.slots t 3)
/-- lora_A's staging memref is whole. -/
abbrev hs0_3 (t : Fin cfg0.N) : (ms0_3 t).IsWhole := hstage0_3 ((cfg0.slots t 3).cast nbuf0_3)
/-- lora_B's staging memref at a point. -/
abbrev ms0_4 (t : Fin cfg0.N) : Memref sig .tc .vmem S5120x48 .bf16 := win0_4.stage (cfg0.slots t 4)
/-- lora_B's staging memref is whole. -/
abbrev hs0_4 (t : Fin cfg0.N) : (ms0_4 t).IsWhole := hstage0_4 ((cfg0.slots t 4).cast nbuf0_4)
/-- The magnitudes' staging memref at a point. -/
abbrev ms0_5 (t : Fin cfg0.N) : Memref sig .tc .vmem S1x5120 .f32 := win0_5.stage (cfg0.slots t 5)
/-- The magnitudes' staging memref is whole. -/
abbrev hs0_5 (t : Fin cfg0.N) : (ms0_5 t).IsWhole := hstage0_5 ((cfg0.slots t 5).cast nbuf0_5)
/-- The results' staging memref at a point. -/
abbrev ms0_6 (t : Fin cfg0.N) : Memref sig .tc .vmem S512x5120 .bf16 := win0_6.stage (cfg0.slots t 6)
/-- The results' staging memref is whole. -/
abbrev hs0_6 (t : Fin cfg0.N) : (ms0_6 t).IsWhole := hstage0_6 ((cfg0.slots t 6).cast nbuf0_6)
/-- The norms' staging memref at a point. -/
abbrev ms0_7 (t : Fin cfg0.N) : Memref sig .tc .vmem S1x5120 .f32 := win0_7.stage (cfg0.slots t 7)
/-- The norms' staging memref is whole. -/
abbrev hs0_7 (t : Fin cfg0.N) : (ms0_7 t).IsWhole := hstage0_7 ((cfg0.slots t 7).cast nbuf0_7)
/-- The codes' staging memref at a point. -/
abbrev ms0_8 (t : Fin cfg0.N) : Memref sig .tc .vmem S512x1536 .fp8e4m3 := win0_8.stage (cfg0.slots t 8)
/-- The codes' staging memref is whole. -/
abbrev hs0_8 (t : Fin cfg0.N) : (ms0_8 t).IsWhole := hstage0_8 ((cfg0.slots t 8).cast nbuf0_8)
/-- The scales' staging memref at a point. -/
abbrev ms0_9 (t : Fin cfg0.N) : Memref sig .tc .vmem S512x1 .f32 := win0_9.stage (cfg0.slots t 9)
/-- The scales' staging memref is whole. -/
abbrev hs0_9 (t : Fin cfg0.N) : (ms0_9 t).IsWhole := hstage0_9 ((cfg0.slots t 9).cast nbuf0_9)
/-- The scratch row. -/
abbrev scM0_0 : Memref sig .tc .vmem S1x5120 .f32 := Memref.whole cc0_scratch0

/-- What the launch hands the first point: the scratch row at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The first grid point. -/
def p0 : Fin cfg0.N := ⟨0, by rw [show cfg0.N = 24 from N_0]; norm_num⟩

/-- The row of column norms of core c's launch. -/
def cnAt (c : Dev nD) : Vec F S1x5120 .f32 :=
  cnRow (iblk m c 1 p0) (iblk m c 2 p0) (iblk m c 3 p0) (iblk m c 4 p0)

/-- The row of magnitude over column norm of core c's launch. -/
def gAt (c : Dev nD) : Vec F S1x5120 .f32 :=
  gRow (iblk m c 1 p0) (iblk m c 2 p0) (iblk m c 3 p0) (iblk m c 4 p0) (iblk m c 5 p0)

/-- What the body carries between points: before the first the scratch row at anything, afterwards at
    magnitude over column norm; the generator register throughout. -/
def carried (c : Dev nD) (n : ℕ) : sProp 𝕄 :=
  if n = 0 then Pipeline.ΦA spec0 c
  else iprop(owns (c : Thread nD τ) scM0_0 fullShare (gAt m c) ∗ (∃ r, prngReg c r))

/-- Before the first point nothing is known of the scratch row. -/
theorem carried_zero (c : Dev nD) : carried m c 0 = Pipeline.ΦA spec0 c := if_pos rfl
/-- After any point the scratch row holds the gains. -/
theorem carried_pos (c : Dev nD) (n : ℕ) (hn : n ≠ 0) :
    carried m c n = iprop(owns (c : Thread nD τ) scM0_0 fullShare (gAt m c) ∗ (∃ r, prngReg c r)) := if_neg hn

/-- The proof data: each input block in place, each output block as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (gAt m c)
    | ⟨7, _⟩ => cnAt m c
    | ⟨8, _⟩ => out8 (iblk m c 0 t)
    | ⟨9, _⟩ => out9 (iblk m c 0 t)
  Φ n := carried m c n.val
  q _ := fullShare
  owed _ := 0

/-- The proof data starts every array at its contents at the launch. -/
theorem A_eq (c : Dev nD) (w : Fin cfg0.W) : (dats m 0 c).A w = V m c (Pipeline.arrRef spec0 w) := by
  dsimp only [dats]

/-- What the proof data puts in x's window after a point. -/
theorem after0_0 (c : Dev nD) (t : Fin cfg0.N) : (dats m 0 c).after 0 t = iblk m c 0 t := by dsimp only [dats]
/-- What the proof data puts in the weight codes' window after a point. -/
theorem after0_1 (c : Dev nD) (t : Fin cfg0.N) : (dats m 0 c).after 1 t = iblk m c 1 t := by dsimp only [dats]
/-- What the proof data puts in the weight scales' window after a point. -/
theorem after0_2 (c : Dev nD) (t : Fin cfg0.N) : (dats m 0 c).after 2 t = iblk m c 2 t := by dsimp only [dats]
/-- What the proof data puts in lora_A's window after a point. -/
theorem after0_3 (c : Dev nD) (t : Fin cfg0.N) : (dats m 0 c).after 3 t = iblk m c 3 t := by dsimp only [dats]
/-- What the proof data puts in lora_B's window after a point. -/
theorem after0_4 (c : Dev nD) (t : Fin cfg0.N) : (dats m 0 c).after 4 t = iblk m c 4 t := by dsimp only [dats]
/-- What the proof data puts in the magnitudes' window after a point. -/
theorem after0_5 (c : Dev nD) (t : Fin cfg0.N) : (dats m 0 c).after 5 t = iblk m c 5 t := by dsimp only [dats]
/-- What the proof data puts in the results' window after a point. -/
theorem after0_6 (c : Dev nD) (t : Fin cfg0.N) : (dats m 0 c).after 6 t
    = out6 (iblk m c 0 t) (iblk m c 1 t) (iblk m c 2 t) (iblk m c 3 t) (iblk m c 4 t) (gAt m c) := by dsimp only [dats]
/-- What the proof data puts in the norms' window after a point. -/
theorem after0_7 (c : Dev nD) (t : Fin cfg0.N) : (dats m 0 c).after 7 t = cnAt m c := by dsimp only [dats]
/-- What the proof data puts in the codes' window after a point. -/
theorem after0_8 (c : Dev nD) (t : Fin cfg0.N) : (dats m 0 c).after 8 t = out8 (iblk m c 0 t) := by dsimp only [dats]
/-- What the proof data puts in the scales' window after a point. -/
theorem after0_9 (c : Dev nD) (t : Fin cfg0.N) : (dats m 0 c).after 9 t = out9 (iblk m c 0 t) := by dsimp only [dats]

/-- What x's window holds before a point. -/
theorem before0_0 (c : Dev nD) (t : Fin cfg0.N) (d) : (dats m 0 c).before 0 t d = iblk m c 0 t :=
  before0_0_of m (dats m 0 c) (A_eq m c 0) (after0_0 m c) t d
/-- What the weight codes' window holds before a point. -/
theorem before0_1 (c : Dev nD) (t : Fin cfg0.N) (d) : (dats m 0 c).before 1 t d = iblk m c 1 t :=
  before0_1_of m (dats m 0 c) (A_eq m c 1) (after0_1 m c) t d
/-- What the weight scales' window holds before a point. -/
theorem before0_2 (c : Dev nD) (t : Fin cfg0.N) (d) : (dats m 0 c).before 2 t d = iblk m c 2 t :=
  before0_2_of m (dats m 0 c) (A_eq m c 2) (after0_2 m c) t d
/-- What lora_A's window holds before a point. -/
theorem before0_3 (c : Dev nD) (t : Fin cfg0.N) (d) : (dats m 0 c).before 3 t d = iblk m c 3 t :=
  before0_3_of m (dats m 0 c) (A_eq m c 3) (after0_3 m c) t d
/-- What lora_B's window holds before a point. -/
theorem before0_4 (c : Dev nD) (t : Fin cfg0.N) (d) : (dats m 0 c).before 4 t d = iblk m c 4 t :=
  before0_4_of m (dats m 0 c) (A_eq m c 4) (after0_4 m c) t d
/-- What the magnitudes' window holds before a point. -/
theorem before0_5 (c : Dev nD) (t : Fin cfg0.N) (d) : (dats m 0 c).before 5 t d = iblk m c 5 t :=
  before0_5_of m (dats m 0 c) (A_eq m c 5) (after0_5 m c) t d

/-- Once stored, the row of column norms is never taken for stale. -/
theorem fresh7 : ∀ t : Fin cfg0.N, t.val ≠ 0 → cfg0.fresh 7 t.val = false := by decide +kernel

/-- After the first point the row of column norms is still in its buffer: it is written back at the last point only. -/
theorem before0_7 (c : Dev nD) (t : Fin cfg0.N) (ht : t.val ≠ 0) (d) : (dats m 0 c).before 7 t d = cnAt m c := by
  rw [(dats m 0 c).before_out_traj 7 rfl (fun _ _ => rfl)
    (fun t _ _ _ => (after0_7 m c t).trans (after0_7 m c _).symm) t.val t rfl d,
    fresh7 t ht, if_neg Bool.false_ne_true, after0_7]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- What the body leaves in x's window is what the proof data says. -/
theorem leaves0_0 (c : Dev nD) (t : Fin cfg0.N) : (dats m 0 c).leavesExact 0 t
    = owns (c : Thread nD τ) (ms0_0 t) fullShare ((dats m 0 c).after 0 t) := by
  unfold Dat.leavesExact; rw [liveAt0_0 t]
/-- What the body leaves in the weight codes' window is what the proof data says. -/
theorem leaves0_1 (c : Dev nD) (t : Fin cfg0.N) : (dats m 0 c).leavesExact 1 t
    = owns (c : Thread nD τ) (ms0_1 t) fullShare ((dats m 0 c).after 1 t) := by
  unfold Dat.leavesExact; rw [liveAt0_1 t]
/-- What the body leaves in the weight scales' window is what the proof data says. -/
theorem leaves0_2 (c : Dev nD) (t : Fin cfg0.N) : (dats m 0 c).leavesExact 2 t
    = owns (c : Thread nD τ) (ms0_2 t) fullShare ((dats m 0 c).after 2 t) := by
  unfold Dat.leavesExact; rw [liveAt0_2 t]
/-- What the body leaves in lora_A's window is what the proof data says. -/
theorem leaves0_3 (c : Dev nD) (t : Fin cfg0.N) : (dats m 0 c).leavesExact 3 t
    = owns (c : Thread nD τ) (ms0_3 t) fullShare ((dats m 0 c).after 3 t) := by
  unfold Dat.leavesExact; rw [liveAt0_3 t]
/-- What the body leaves in lora_B's window is what the proof data says. -/
theorem leaves0_4 (c : Dev nD) (t : Fin cfg0.N) : (dats m 0 c).leavesExact 4 t
    = owns (c : Thread nD τ) (ms0_4 t) fullShare ((dats m 0 c).after 4 t) := by
  unfold Dat.leavesExact; rw [liveAt0_4 t]
/-- What the body leaves in the magnitudes' window is what the proof data says. -/
theorem leaves0_5 (c : Dev nD) (t : Fin cfg0.N) : (dats m 0 c).leavesExact 5 t
    = owns (c : Thread nD τ) (ms0_5 t) fullShare ((dats m 0 c).after 5 t) := by
  unfold Dat.leavesExact; rw [liveAt0_5 t]
/-- What the body leaves in the results' window is what the proof data says. -/
theorem leaves0_6 (c : Dev nD) (t : Fin cfg0.N) : (dats m 0 c).leavesExact 6 t
    = owns (c : Thread nD τ) (ms0_6 t) fullShare ((dats m 0 c).after 6 t) := by
  unfold Dat.leavesExact; rw [liveAt0_6 t]
/-- What the body leaves in the codes' window is what the proof data says. -/
theorem leaves0_8 (c : Dev nD) (t : Fin cfg0.N) : (dats m 0 c).leavesExact 8 t
    = owns (c : Thread nD τ) (ms0_8 t) fullShare ((dats m 0 c).after 8 t) := by
  unfold Dat.leavesExact; rw [liveAt0_8 t]
/-- What the body leaves in the scales' window is what the proof data says. -/
theorem leaves0_9 (c : Dev nD) (t : Fin cfg0.N) : (dats m 0 c).leavesExact 9 t
    = owns (c : Thread nD τ) (ms0_9 t) fullShare ((dats m 0 c).after 9 t) := by
  unfold Dat.leavesExact; rw [liveAt0_9 t]
/-- The row of column norms in its buffer is what every point may leave there: what the first point stored, what a
    later point found, and what the last point writes back. -/
theorem leaves0_7 (c : Dev nD) (t : Fin cfg0.N) :
    owns (c : Thread nD τ) (ms0_7 t) fullShare (cnAt m c) ⊢ ((dats m 0 c).leavesExact 7 t : sProp 𝕄) := by
  cases hi : cfg0.idle 7 (grid0.coords t) with
  | false =>
    rw [show (dats m 0 c).leavesExact 7 t = owns (c : Thread nD τ) (ms0_7 t) fullShare ((dats m 0 c).after 7 t) from by
      unfold Dat.leavesExact; rw [hi], after0_7]
  | true =>
    cases hf : (cfg0.win 7).flush t with
    | true =>
      rw [show (dats m 0 c).leavesExact 7 t = owns (c : Thread nD τ) (ms0_7 t) fullShare ((dats m 0 c).after 7 t) from by
        unfold Dat.leavesExact; rw [hi, hf], after0_7]
    | false =>
      rw [(dats m 0 c).leavesExact_idle 7 t hi hf]
      have ht : t.val ≠ 0 := by
        intro h
        have : cfg0.idle 7 (grid0.coords t) = false := by
          rw [show t = p0 from Fin.ext h]; decide +kernel
        rw [hi] at this; exact absurd this (by decide)
      simp only [before0_7 m c t ht]
      iintro H
      iexists cnAt m c
      iexact H

set_option maxHeartbeats 3200000 in
/-- The body at any point, by the two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = iprop(owns (c : Thread nD τ) scM0_0 fullShare (gAt m c) ∗ (∃ r, prngReg c r)) from
    carried_pos m c (t.val + 1) (Nat.succ_ne_zero _)]
  simp only [leaves0_0, leaves0_1, leaves0_2, leaves0_3, leaves0_4, leaves0_5, leaves0_6, leaves0_8, leaves0_9,
    after0_0, after0_1, after0_2, after0_3, after0_4, after0_5, after0_6, after0_8, after0_9]
  have hN : t.val < 24 := lt_of_lt_of_eq t.isLt (show cfg0.N = 24 from N_0)
  by_cases h0 : t.val % 24 = 0
  · obtain rfl : t = p0 := Fin.ext (show t.val = 0 by omega)
    rw [show (dats m 0 c).Φ p0.castSucc = Pipeline.ΦA spec0 c from carried_zero m c, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords p0) _ _ _ _ _ _ _ _ _ _ _ _ _ _ _ _ _ _ _ _ _ _ ((hcond0_0 p0).mpr h0) (iblk m c 0 p0) (iblk m c 1 p0) (iblk m c 2 p0) (iblk m c 3 p0) (iblk m c 4 p0) (iblk m c 5 p0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m c p0); iexact H7
    isplitl [H8]; · iexact H8
    iexact H9
  · rw [show (dats m 0 c).Φ t.castSucc = iprop(owns (c : Thread nD τ) scM0_0 fullShare (gAt m c) ∗ (∃ r, prngReg c r)) from
      carried_pos m c t.val (fun h => h0 (by rw [show t.val = 0 from h]))]
    simp only [before0_7 m c t (fun h => h0 (by rw [h]))]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (cnAt m c) (gAt m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m c t); iexact H7
    isplitl [H8]; · iexact H8
    iexact H9

/-- The body table's row at a point is the body as bodyAt0 spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch row may be forgotten. -/
theorem carried_last (c : Dev nD) : (dats m 0 c).Φ (Fin.last (cfgs 0).N) ⊢ Pipeline.ΦA spec0 c := by
  rw [show (dats m 0 c).Φ (Fin.last (cfgs 0).N) = iprop(owns (c : Thread nD τ) scM0_0 fullShare (gAt m c) ∗ (∃ r, prngReg c r)) from
    carried_pos m c cfg0.N (by rw [show cfg0.N = 24 from N_0]; norm_num), PhiA0_eq]
  iintro ⟨HS0, Hg⟩
  isplitl [HS0]
  · iexists _; iexact HS0
  iexact Hg

set_option backward.isDefEq.respectTransparency.types false in
/-- The launch: it terminates, every array ends as the proof data says, and every semaphore counter ends at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = Pipeline.ΦA spec0 c from carried_zero m c])
    (hout := carried_last m)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as it began, and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ))
    ((θ_run defs _ _).mono (fun _ h => h.2) (run_main_quiescent m ρ))

end Cert.KernelIdeal.Value

end
-- ==== Proof.KernelFrame.lean ====
/- The kernel's own frame. The kernel and its ideal program are one text, read over two arithmetics; what
   `Proof/ValueRun.lean` proves for every arithmetic is therefore the kernel's as well. -/
module

public import proofs.«01_k».proof.Defs
public import proofs.«01_k».proof.Proof.Gen.Kernel
public import proofs.«01_k».proof.Proof.ValueRun

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts

/-- The two programs' tables of bodies are the same. -/
theorem table_same : Cert.Kernel.defs₀ (F := Bits) = Cert.KernelIdeal.defs₀ (F := Bits) := by
  refine congrArg (Defs.onTc (Λ := Cert.KernelIdeal.Λ₀)) (funext fun l => funext fun a => ?_)
  match l, a with
  | 0, (t, s) =>
    dsimp only
    rfl

/-- The two programs' whole tables, bodies and pipeline, are the same. -/
theorem defs_same : Cert.Kernel.defs (F := Bits) = Cert.KernelIdeal.defs (F := Bits) :=
  congrArg (Pipeline.defs (Cert.KernelIdeal.pcfgs (F := Bits))) table_same

/-- The kernel's frame: it terminates, keeps its arguments and ends with every counter at zero. -/
theorem kernel_frame : Cert.quiescent_Kernel (hKernel := Cert.Kernel.Gen.facts) := by
  intro m g _
  rw [defs_same]
  exact Cert.KernelIdeal.Value.frame (F := Bits) m g

end Cert.Proof

end
-- ==== Proof.Exponent.lean ====
/- The scale of one token, over the extended reals: the kernel finds the exponent of the scaled maximum by halving an
   interval of exponent fields, the reference as the greatest power of two not above it. Both give the same scale and the
   same reciprocal scale. -/
module

public import Idealize.ShloMosaic.PureOps.Ideal
public import Idealize.ShloMosaic.PureOps.Ideal.Laws

@[expose] public section

set_option maxRecDepth 16384

noncomputable section

namespace Cert.Exponent

open Idealize.ShloMosaic

/-- The number whose exponent field is `b` and whose other bits are zero. -/
def pat (b : BitVec 32) : EReal := Ideal.ofBits .f32 (IntOp.shli .vector b 23#32)

/-- One halving: take `s` more if the number with that field is not above `v`. -/
def stp (v : EReal) (s b : BitVec 32) : BitVec 32 :=
  if Ideal.cmp .oge v (pat (IntOp.addi b s)) = 1 then IntOp.addi b s else b

/-- The exponent field the kernel finds for `v`. -/
def field (v : EReal) : BitVec 32 :=
  stp v 1#32 (stp v 2#32 (stp v 4#32 (stp v 8#32 (stp v 16#32 (stp v 32#32 (stp v 64#32 (stp v 128#32 0#32)))))))

/-- The kernel's exponent from the field: zero at the two ends, else the field less 126. -/
def unb (b : BitVec 32) : BitVec 32 :=
  if IntOp.ori (IntOp.cmpi .eq b 0#32) (IntOp.cmpi .eq b 255#32) = 1 then 0#32 else IntOp.subi b 126#32

/-- The kernel's power of two with a given exponent. -/
def powW (e : BitVec 32) : EReal := pat (IntOp.minsi 255#32 (IntOp.maxsi 0#32 (IntOp.addi e 127#32)))

/-- The reference's exponent of `v`, from the greatest exponent `M` of a power of two not above `v`. -/
def refE (v M : EReal) : EReal :=
  if IntOp.ori (Ideal.cmp .olt v (Ideal.ofBits .f32 0x00800000#32)) (Ideal.cmp .oeq v (Ideal.ofBits .f32 0x7F800000#32)) = 1
  then Ideal.ofBits .f32 0x00000000#32 else M + Ideal.ofBits .f32 0x3F800000#32

/-- The reference's power of two with a given exponent. -/
def refPow (e : EReal) : EReal :=
  if Ideal.cmp .ogt e (Ideal.ofBits .f32 0x42FE0000#32) = 1 then Ideal.ofBits .f32 0x7F800000#32
  else if Ideal.cmp .olt e (Ideal.ofBits .f32 0xC2FC0000#32) = 1 then Ideal.ofBits .f32 0x00000000#32
  else Ideal.exp2 e

/-- The exponent `k - 126` where its power of two is not above `v`, else -127. -/
def cand (v : EReal) (k : ℕ) : EReal :=
  if Ideal.cmp .ole (Ideal.exp2 (((BitVec.ofNat 32 k).toInt : ℝ) - Ideal.ofBits .f32 0x42FC0000#32)) v = 1
  then (((BitVec.ofNat 32 k).toInt : ℝ) : EReal) - Ideal.ofBits .f32 0x42FC0000#32 else Ideal.ofBits .f32 0xC2FE0000#32

/-! The constants. -/

/-- The pattern of the float 126. -/
theorem c126 : Ideal.ofBits .f32 0x42FC0000#32 = ((126 : ℝ) : EReal) := by
  simp [Ideal.ofBits, Ideal.ieee, -EReal.coe_mul]; norm_num
/-- The pattern of the float 127. -/
theorem c127 : Ideal.ofBits .f32 0x42FE0000#32 = ((127 : ℝ) : EReal) := by
  simp [Ideal.ofBits, Ideal.ieee, -EReal.coe_mul]; norm_num
/-- The pattern of the float -126. -/
theorem cm126 : Ideal.ofBits .f32 0xC2FC0000#32 = ((-126 : ℝ) : EReal) := by
  simp [Ideal.ofBits, Ideal.ieee, -EReal.coe_mul, -EReal.coe_neg]; norm_num
/-- The pattern of the float -127. -/
theorem cm127 : Ideal.ofBits .f32 0xC2FE0000#32 = ((-127 : ℝ) : EReal) := by
  simp [Ideal.ofBits, Ideal.ieee, -EReal.coe_mul, -EReal.coe_neg]; norm_num
/-- The pattern of the float 1. -/
theorem c1 : Ideal.ofBits .f32 0x3F800000#32 = ((1 : ℝ) : EReal) := by
  simp [Ideal.ofBits, Ideal.ieee, -EReal.coe_mul]; norm_num
/-- The pattern of the float 0. -/
theorem c0 : Ideal.ofBits .f32 0x00000000#32 = ((0 : ℝ) : EReal) := by
  simp [Ideal.ofBits, Ideal.ieee, -EReal.coe_mul]
/-- The pattern of infinity. -/
theorem ctop : Ideal.ofBits .f32 0x7F800000#32 = ⊤ := by
  simp [Ideal.ofBits, Ideal.ieee]

/-- The bit of a proposition is one exactly where it holds. -/
theorem ofBool_eq_one (p : Prop) [Decidable p] : (BitVec.ofBool (decide p) = 1) ↔ p := by
  by_cases h : p <;> simp [h]

/-- The three bit fields of the word `n <<< 23`. -/
theorem fields : ∀ n : Fin 256,
    ((IntOp.shli .vector (BitVec.ofNat 32 n) 23#32).extractLsb' 31 1 == 1#1) = false
    ∧ ((IntOp.shli .vector (BitVec.ofNat 32 n) 23#32).extractLsb' 23 8).toNat = n
    ∧ ((IntOp.shli .vector (BitVec.ofNat 32 n) 23#32).extractLsb' 0 23).toNat = 0 := by decide +kernel

/-- What the number with exponent field `n` is. -/
theorem pat_eq (n : ℕ) (h : n < 256) :
    pat (BitVec.ofNat 32 n) = if n = 255 then ⊤ else if n = 0 then 0 else (((2 : ℝ) ^ ((n : ℤ) - 127) : ℝ) : EReal) := by
  obtain ⟨h1, h2, h3⟩ := fields ⟨n, h⟩
  simp only at h1 h2 h3
  unfold pat Ideal.ofBits Ideal.ieee
  simp only [Nat.reduceAdd, h1, h2, h3]
  by_cases hn : n = 255
  · simp [hn]
  · by_cases h0 : n = 0
    · simp [h0]
    · simp only [hn, h0, if_false, Nat.reducePow, Nat.reduceSub]
      have : ((1 : ℝ) * ((2 ^ 23 + 0 : ℕ) : ℝ) * (2 : ℝ) ^ ((n : ℤ) - (2 ^ (8 - 1) - 1) - (23 : ℕ))) = (2 : ℝ) ^ ((n : ℤ) - 127) := by
        have e : ((n : ℤ) - (2 ^ (8 - 1) - 1) - (23 : ℕ)) = ((n : ℤ) - 127) + (-23) := by norm_num; ring
        rw [e, zpow_add₀ (by norm_num)]
        norm_num
        field_simp
      simpa using congrArg (fun r : ℝ => (r : EReal)) this

/-- One halving on naturals. -/
theorem stp_eq (v : EReal) (s n : ℕ) :
    stp v (BitVec.ofNat 32 s) (BitVec.ofNat 32 n)
      = if pat (BitVec.ofNat 32 (n + s)) ≤ v then BitVec.ofNat 32 (n + s) else BitVec.ofNat 32 n := by
  have e : IntOp.addi (BitVec.ofNat 32 n) (BitVec.ofNat 32 s) = BitVec.ofNat 32 (n + s) := by
    show BitVec.ofNat 32 n + BitVec.ofNat 32 s = _
    rw [BitVec.ofNat_add]
  unfold stp
  rw [e]
  exact if_congr (ofBool_eq_one _) rfl rfl

/-- What holds of a candidate field `n` while the interval left has length `w`. -/
def Inv (v : EReal) (w : ℕ) (b : BitVec 32) : Prop :=
  ∃ n, b = BitVec.ofNat 32 n ∧ n + w ≤ 256 ∧ (n = 0 ∨ pat (BitVec.ofNat 32 n) ≤ v)
    ∧ (n + w = 256 ∨ ¬ pat (BitVec.ofNat 32 (n + w)) ≤ v)

/-- One step of the bisection halves the interval and keeps the invariant. -/
theorem Inv.step {v : EReal} {s : ℕ} {b : BitVec 32} (h : Inv v (s + s) b) : Inv v s (stp v (BitVec.ofNat 32 s) b) := by
  obtain ⟨n, rfl, h1, h2, h3⟩ := h
  rw [stp_eq]
  by_cases hp : pat (BitVec.ofNat 32 (n + s)) ≤ v
  · rw [if_pos hp]
    exact ⟨n + s, rfl, by omega, .inr hp, by rw [Nat.add_assoc]; exact h3⟩
  · rw [if_neg hp]
    exact ⟨n, rfl, by omega, h2, .inr hp⟩

/-- The field found: its number is not above `v` (or it is 0) and the next one's is (or it is 255). -/
theorem field_spec (v : EReal) : Inv v 1 (field v) := by
  have h0 : Inv v (128 + 128) 0#32 := ⟨0, rfl, by omega, .inl rfl, .inl rfl⟩
  exact Inv.step (s := 1) (Inv.step (s := 2) (Inv.step (s := 4) (Inv.step (s := 8) (Inv.step (s := 16)
    (Inv.step (s := 32) (Inv.step (s := 64) (Inv.step (s := 128) h0)))))))

/-- The word of the kernel's scale, and of its reciprocal, for every field. -/
theorem words : ∀ n : Fin 256,
    IntOp.minsi 255#32 (IntOp.maxsi 0#32 (IntOp.addi (unb (BitVec.ofNat 32 n)) 127#32))
        = BitVec.ofNat 32 (if n.val = 0 ∨ n.val = 255 then 127 else n.val + 1)
    ∧ IntOp.minsi 255#32 (IntOp.maxsi 0#32 (IntOp.addi (IntOp.subi 0#32 (unb (BitVec.ofNat 32 n))) 127#32))
        = BitVec.ofNat 32 (if n.val = 0 ∨ n.val = 255 then 127 else 253 - n.val) := by decide +kernel

/-- Exp2 of an integer is that power of two. -/
theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

/-- The candidate at index k, in closed form. -/
theorem cand_eq (v : EReal) (k : ℕ) (hk : k < 254) :
    cand v k = if pat (BitVec.ofNat 32 (k + 1)) ≤ v then ((((k : ℤ) - 126 : ℤ) : ℝ) : EReal) else ((-127 : ℝ) : EReal) := by
  have hi : (BitVec.ofNat 32 k).toInt = (k : ℤ) := by
    rw [BitVec.toInt_eq_toNat_of_lt (by rw [BitVec.toNat_ofNat]; omega), BitVec.toNat_ofNat, Nat.mod_eq_of_lt (by omega)]
  have hs : ((((k : ℤ) : ℝ) : EReal) - ((126 : ℝ) : EReal)) = ((((k : ℤ) - 126 : ℤ) : ℝ) : EReal) := by
    rw [← EReal.coe_sub]; push_cast; rfl
  unfold cand
  rw [hi, c126, cm127, hs, exp2_int]
  refine if_congr ((ofBool_eq_one _).trans ?_) rfl rfl
  rw [pat_eq _ (by omega), if_neg (by omega), if_neg (by omega)]
  have : ((k + 1 : ℕ) : ℤ) - 127 = (k : ℤ) - 126 := by push_cast; ring
  rw [this]

/-- The numbers with fields 1, 2, …, 255 increase. -/
theorem pat_mono {a b : ℕ} (ha : 1 ≤ a) (hab : a ≤ b) (hb : b < 256) :
    pat (BitVec.ofNat 32 a) ≤ pat (BitVec.ofNat 32 b) := by
  by_cases h : b = 255
  · rw [pat_eq b hb, if_pos h]; exact le_top
  · rw [pat_eq b hb, if_neg h, if_neg (by omega), pat_eq a (by omega), if_neg (by omega), if_neg (by omega)]
    exact EReal.coe_le_coe_iff.mpr (zpow_le_zpow_right₀ (by norm_num) (by omega))

/-- The smallest normal float is the power of two with exponent field one. -/
theorem c_min : Ideal.ofBits .f32 0x00800000#32 = pat (BitVec.ofNat 32 1) := by
  unfold pat; exact congrArg (Ideal.ofBits .f32) (by decide +kernel : (0x00800000#32 : BitVec 32) = IntOp.shli .vector (BitVec.ofNat 32 1) 23#32)

/-- The reference's exponent in terms of the field the kernel finds. -/
theorem refE_eq (v M : EReal) (n : ℕ) (hn : n + 1 ≤ 256) (hlo : n = 0 ∨ pat (BitVec.ofNat 32 n) ≤ v)
    (hhi : n + 1 = 256 ∨ ¬ pat (BitVec.ofNat 32 (n + 1)) ≤ v)
    (hM : ∀ k, k < 254 → cand v k ≤ M) (hM' : ∃ k, k < 254 ∧ M = cand v k) :
    refE v M = ((((if n = 0 ∨ n = 255 then 0 else (n : ℤ) - 126 : ℤ) : ℤ) : ℝ) : EReal) := by
  have hcond : (IntOp.ori (Ideal.cmp .olt v (Ideal.ofBits .f32 0x00800000#32)) (Ideal.cmp .oeq v (Ideal.ofBits .f32 0x7F800000#32)) = 1)
      ↔ (n = 0 ∨ n = 255) := by
    have h1 : (Ideal.cmp .olt v (Ideal.ofBits .f32 0x00800000#32) = 1) ↔ n = 0 := by
      refine (ofBool_eq_one _).trans ?_
      rw [c_min]
      constructor
      · intro h
        rcases hlo with h0 | h0
        · exact h0
        · by_contra hne
          exact absurd ((pat_mono le_rfl (by omega) (by omega)).trans h0) (not_le.mpr h)
      · rintro rfl
        rcases hhi with h0 | h0
        · omega
        · exact not_le.mp h0
    have h2 : (Ideal.cmp .oeq v (Ideal.ofBits .f32 0x7F800000#32) = 1) ↔ n = 255 := by
      refine (ofBool_eq_one _).trans ?_
      rw [ctop]
      constructor
      · rintro rfl
        rcases hhi with h0 | h0
        · omega
        · exact absurd le_top h0
      · rintro rfl
        rcases hlo with h0 | h0
        · omega
        · rw [pat_eq _ (by omega), if_pos rfl] at h0
          exact top_le_iff.mp h0
    have h3 : ∀ a b : BitVec 1, (IntOp.ori a b = 1) ↔ (a = 1 ∨ b = 1) := by decide
    rw [h3, h1, h2]
  unfold refE
  rw [c0, c1]
  by_cases hc : n = 0 ∨ n = 255
  · rw [if_pos (hcond.mpr hc), if_pos hc]; norm_num
  · rw [if_neg (fun h => hc (hcond.mp h)), if_neg hc]
    have hlo' : pat (BitVec.ofNat 32 n) ≤ v := hlo.resolve_left (by omega)
    have hhi' : ¬ pat (BitVec.ofNat 32 (n + 1)) ≤ v := hhi.resolve_left (by omega)
    have hMn : M = ((((n : ℤ) - 127 : ℤ) : ℝ) : EReal) := by
      apply le_antisymm
      · obtain ⟨k, hk, rfl⟩ := hM'
        rw [cand_eq v k hk]
        split_ifs with hp
        · rw [EReal.coe_le_coe_iff]
          have : k + 1 ≤ n := by
            by_contra hlt
            exact hhi' ((pat_mono (by omega) (by omega) (by omega)).trans hp)
          exact_mod_cast (by omega : (k : ℤ) - 126 ≤ (n : ℤ) - 127)
        · rw [EReal.coe_le_coe_iff]
          exact_mod_cast (by omega : (-127 : ℤ) ≤ (n : ℤ) - 127)
      · have h := hM (n - 1) (by omega)
        rw [cand_eq v (n - 1) (by omega), Nat.sub_add_cancel (by omega), if_pos hlo'] at h
        refine le_trans (le_of_eq ?_) h
        congr 2
        omega
    rw [hMn, ← EReal.coe_add]
    congr 1
    push_cast
    ring

/-- The reference's power of two at an integer exponent of the range that occurs. -/
theorem refPow_int (z : ℤ) : refPow ((z : ℝ) : EReal)
    = if 127 < z then ⊤ else if z < -126 then 0 else (((2 : ℝ) ^ z : ℝ) : EReal) := by
  unfold refPow
  rw [c127, cm126, ctop, c0, exp2_int]
  refine if_congr ((ofBool_eq_one _).trans ?_) rfl (if_congr ((ofBool_eq_one _).trans ?_) (by norm_num) rfl)
  · rw [EReal.coe_lt_coe_iff]; norm_cast
  · rw [EReal.coe_lt_coe_iff]; exact_mod_cast Iff.rfl

/-- THE SCALE: the reference's is the kernel's. -/
theorem scale_eq (v M : EReal) (hM : ∀ k, k < 254 → cand v k ≤ M) (hM' : ∃ k, k < 254 ∧ M = cand v k) :
    refPow (refE v M) = powW (unb (field v)) := by
  obtain ⟨n, hf, h1, h2, h3⟩ := field_spec v
  rw [hf, refE_eq v M n h1 h2 h3 hM hM', refPow_int]
  unfold powW
  rw [(words ⟨n, by omega⟩).1]
  simp only
  by_cases hc : n = 0 ∨ n = 255
  · rw [if_pos hc, if_pos hc, pat_eq _ (by omega)]; norm_num
  · rw [if_neg hc, if_neg hc, pat_eq _ (by omega)]
    by_cases h254 : n = 254
    · rw [if_pos (by omega), if_pos (by omega)]
    · rw [if_neg (by omega), if_neg (by omega), if_neg (by omega), if_neg (by omega)]
      congr 2; omega

/-- THE RECIPROCAL SCALE: the reference's is the kernel's. -/
theorem inv_eq (v M : EReal) (hM : ∀ k, k < 254 → cand v k ≤ M) (hM' : ∃ k, k < 254 ∧ M = cand v k) :
    refPow (Ideal.ofBits .f32 0x00000000#32 - refE v M) = powW (IntOp.subi 0#32 (unb (field v))) := by
  obtain ⟨n, hf, h1, h2, h3⟩ := field_spec v
  rw [hf, refE_eq v M n h1 h2 h3 hM hM', c0, ← EReal.coe_sub]
  have hz : (0 : ℝ) - (((if n = 0 ∨ n = 255 then 0 else (n : ℤ) - 126 : ℤ) : ℤ) : ℝ)
      = ((-(if n = 0 ∨ n = 255 then 0 else (n : ℤ) - 126 : ℤ) : ℤ) : ℝ) := by push_cast; ring
  rw [hz, refPow_int]
  unfold powW
  rw [(words ⟨n, by omega⟩).2]
  simp only
  by_cases hc : n = 0 ∨ n = 255
  · rw [if_pos hc, if_pos hc, pat_eq _ (by omega)]; norm_num
  · rw [if_neg hc, if_neg hc, pat_eq _ (by omega)]
    by_cases h253 : 253 ≤ n
    · rw [if_neg (by omega), if_pos (by omega), if_neg (by omega), if_pos (by omega)]
    · rw [if_neg (by omega), if_neg (by omega), if_neg (by omega), if_neg (by omega)]
      congr 2; omega

end Cert.Exponent

end
-- ==== Proof.Spec.lean ====
/- The mathematics of the problem over the extended reals, entry by entry. -/
module

public import proofs.«01_k».proof.Proof.Exponent
public import Idealize.ShloMosaic.Lib.Pipeline.ValueKit

@[expose] public section

noncomputable section

namespace Cert.Spec

open Idealize.ShloMosaic Cert.Exponent
open scoped BigOperators

/-- One half, the LoRA factor. -/
def half : EReal := Ideal.ofBits .f32 0x3F000000#32

/-- The largest magnitude of a token's entries. -/
def amax (r : Fin 1536 → EReal) : EReal := Finset.univ.fold max ⊥ fun k => max (r k) (-(r k))

/-- That magnitude over the largest code. -/
def scaled (r : Fin 1536 → EReal) : EReal := amax r * Ideal.ofBits .f32 0x3B124925#32

/-- A token's scale. -/
def scale (r : Fin 1536 → EReal) : EReal := powW (unb (field (scaled r)))

/-- The reciprocal of a token's scale. -/
def recip (r : Fin 1536 → EReal) : EReal := powW (IntOp.subi 0#32 (unb (field (scaled r))))

/-- A token's code at one entry. -/
def code (r : Fin 1536 → EReal) (k : Fin 1536) : EReal :=
  min (Ideal.ofBits .f32 0x43E00000#32) (max (Ideal.ofBits .f32 0xC3E00000#32) (r k * recip r))

/-- A token through lora_A. -/
def hidden (r : Fin 1536 → EReal) (A : Fin 48 → Fin 1536 → EReal) (q : Fin 48) : EReal := ∑ k, r k * A q k

/-- One entry of the merged weight. -/
def merged (w : Fin 1536 → EReal) (ws : EReal) (A : Fin 48 → Fin 1536 → EReal) (b : Fin 48 → EReal) (k : Fin 1536) : EReal :=
  w k * ws + half * ∑ q, b q * A q k

/-- The norm of one row of the merged weight. -/
def norm (w : Fin 1536 → EReal) (ws : EReal) (A : Fin 48 → Fin 1536 → EReal) (b : Fin 48 → EReal) : EReal :=
  Ideal.sqrt (∑ k, merged w ws A b k * merged w ws A b k)

/-- One entry of the result before the magnitude is applied. -/
def lin (r : Fin 1536 → EReal) (w : Fin 1536 → EReal) (ws : EReal) (A : Fin 48 → Fin 1536 → EReal) (b : Fin 48 → EReal) : EReal :=
  (∑ k, code r k * w k) * scale r * ws + half * ∑ q, hidden r A q * b q

/-- A row of a matrix. -/
abbrev row {R C : ℕ} (x : (⟨2, ![R, C]⟩ : Shape).Idx → EReal) (i : Fin R) : Fin C → EReal :=
  fun k => x (ix2 (n0 := R) (n1 := C) i k)

/-- The codes of R tokens. -/
def codes {R : ℕ} (x : (⟨2, ![R, 1536]⟩ : Shape).Idx → EReal) : (⟨2, ![R, 1536]⟩ : Shape).Idx → EReal :=
  fun j => code (row x (j 0)) (j 1)

/-- The scales of R tokens, as a column. -/
def scales {R : ℕ} (x : (⟨2, ![R, 1536]⟩ : Shape).Idx → EReal) : (⟨2, ![R, 1]⟩ : Shape).Idx → EReal :=
  fun j => scale (row x (j 0))

/-- The norms of the rows of the merged weight, as a row. -/
def norms (w : (⟨2, ![5120, 1536]⟩ : Shape).Idx → EReal) (ws : (⟨2, ![1, 5120]⟩ : Shape).Idx → EReal)
    (a : (⟨2, ![48, 1536]⟩ : Shape).Idx → EReal) (b : (⟨2, ![5120, 48]⟩ : Shape).Idx → EReal) :
    (⟨2, ![1, 5120]⟩ : Shape).Idx → EReal :=
  fun j => norm (row w (j 1)) (ws (ix2 (n0 := 1) (n1 := 5120) 0 (j 1))) (row a) (row b (j 1))

/-- The result for R tokens, given the row that multiplies it. -/
def outs {R : ℕ} (x : (⟨2, ![R, 1536]⟩ : Shape).Idx → EReal) (w : (⟨2, ![5120, 1536]⟩ : Shape).Idx → EReal)
    (ws : (⟨2, ![1, 5120]⟩ : Shape).Idx → EReal) (a : (⟨2, ![48, 1536]⟩ : Shape).Idx → EReal)
    (b : (⟨2, ![5120, 48]⟩ : Shape).Idx → EReal) (g : (⟨2, ![1, 5120]⟩ : Shape).Idx → EReal) :
    (⟨2, ![R, 5120]⟩ : Shape).Idx → EReal :=
  fun j => lin (row x (j 0)) (row w (j 1)) (ws (ix2 (n0 := 1) (n1 := 5120) 0 (j 1))) (row a) (row b (j 1))
    * g (ix2 (n0 := 1) (n1 := 5120) 0 (j 1))

/-- The row that multiplies the result: magnitude over norm. -/
def gains (w : (⟨2, ![5120, 1536]⟩ : Shape).Idx → EReal) (ws : (⟨2, ![1, 5120]⟩ : Shape).Idx → EReal)
    (a : (⟨2, ![48, 1536]⟩ : Shape).Idx → EReal) (b : (⟨2, ![5120, 48]⟩ : Shape).Idx → EReal)
    (mg : (⟨2, ![1, 5120]⟩ : Shape).Idx → EReal) : (⟨2, ![1, 5120]⟩ : Shape).Idx → EReal :=
  fun j => Ideal.div (mg j) (norms w ws a b j)

end Cert.Spec

end
-- ==== Proof.RowMax.lean ====
/- A row's maximum, read at a row, at any number of rows. -/
module

public import Idealize.ShloMosaic.Lib.Pipeline.ValueKit

@[expose] public section

set_option maxRecDepth 16384

noncomputable section

namespace Cert.Rows

open Idealize.ShloMosaic Idealize.ShloMosaic.Tactic

/-- The greatest of each row, read at a row. -/
theorem rowMax {R C : ℕ} {φ : FTy} (acc : BitVec φ.bits) (hacc : Ideal.ofBits φ acc = ⊥)
    (v : FVec Ideal ⟨2, ![R, C]⟩ φ) (h : (⟨2, ![R, C]⟩ : Shape).Reduces [1] ⟨1, ![R]⟩) (hφ : FKind.Formats φ)
    (ha : acc = FKind.maximumf.neutral φ hφ) (j : (⟨1, ![R]⟩ : Shape).Idx) :
    multiReduction .maximumf [1] ⟨1, ![R]⟩ v acc h hφ ha j
      = Finset.univ.fold max (⊥ : EReal) (fun k : Fin C => v (ix2 (n0 := R) (n1 := C) (j 0) k)) := by
  rw [multiReduction_maximumf_eq_fold]
  refine (Shape.Reduces.fold_fiber_r2_a1 h j _ _ v).trans ?_
  show Finset.univ.fold max (Ideal.ofBits φ acc) _ = _
  rw [hacc]
  rfl

/-- A column read at an index: the row's entry. -/
theorem colCast {α : Type} {R : ℕ} (v : (⟨1, ![R]⟩ : Shape).Idx → α) (h : (⟨1, ![R]⟩ : Shape).ShapeCasts ⟨2, ![R, 1]⟩)
    (j : (⟨2, ![R, 1]⟩ : Shape).Idx) : shapeCast ⟨2, ![R, 1]⟩ v h j = v (ix1 (n0 := R) (j 0)) := by
  refine congrArg v (Shape.reshapeEquiv_eq_of_rowMajor h ?_)
  rw [rowMajor_val1, rowMajor_val2 j 1 rfl]
  have h1 : (j 1).val = 0 := Nat.lt_one_iff.mp (j 1).isLt
  rw [h1]
  show (j 0).val = _
  omega

/-- A row's maximum kept as a column. -/
theorem rowMaxCol {R C : ℕ} {φ : FTy} (acc : BitVec φ.bits) (hacc : Ideal.ofBits φ acc = ⊥)
    (v : FVec Ideal ⟨2, ![R, C]⟩ φ) (h : (⟨2, ![R, C]⟩ : Shape).Reduces [1] ⟨1, ![R]⟩) (hφ : FKind.Formats φ)
    (ha : acc = FKind.maximumf.neutral φ hφ) (h' : (⟨1, ![R]⟩ : Shape).ShapeCasts ⟨2, ![R, 1]⟩) (j : (⟨2, ![R, 1]⟩ : Shape).Idx) :
    shapeCast ⟨2, ![R, 1]⟩ (multiReduction .maximumf [1] ⟨1, ![R]⟩ v acc h hφ ha) h' j
      = Finset.univ.fold max (⊥ : EReal) (fun k : Fin C => v (ix2 (n0 := R) (n1 := C) (j 0) k)) := by
  rw [colCast, rowMax acc hacc]
  rfl

/-- An entry above every entry of a row is no less than the row's maximum, and the maximum is one of them. -/
theorem fold_max_spec {C : ℕ} (hC : 0 < C) (f : Fin C → EReal) :
    (∀ k, f k ≤ Finset.univ.fold max (⊥ : EReal) f) ∧ ∃ k, Finset.univ.fold max (⊥ : EReal) f = f k := by
  have e : Finset.univ.fold max (⊥ : EReal) f = Finset.univ.sup f := rfl
  rw [e]
  refine ⟨fun k => Finset.le_sup (Finset.mem_univ k), ?_⟩
  obtain ⟨k, _, hk⟩ := Finset.exists_mem_eq_sup Finset.univ ⟨⟨0, hC⟩, Finset.mem_univ _⟩ f
  exact ⟨k, hk⟩

end Cert.Rows

end
-- ==== Proof.BlockQuant.lean ====
/- What the kernel's quantiser computes on one block of tokens, entry by entry, over the extended reals. -/
module

public import proofs.«01_k».proof.Proof.BlockOut
public import proofs.«01_k».proof.Proof.Spec
public import proofs.«01_k».proof.Proof.RowMax
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

/-- A block cast to its own shape is itself. -/
theorem pay4_eq (x : Vec Ideal S512x1536 .bf16) : k0_pay4 x = x := by
  funext i
  exact congrArg x (Shape.reshapeEquiv_eq_of_rowMajor shapeCasts_S512x1536_S512x1536 rfl)

/-- The pattern of minus infinity in bfloat16. -/
theorem negInf : Ideal.ofBits .bf16 0xFF80#16 = ⊥ := by simp [Ideal.ofBits, Ideal.ieee]

/-- A product by a constant, at an index. -/
theorem mulf_const {s : Shape} (z : FVec Ideal s .bf16) (h : FTy.bits .bf16 < FTy.bits .f32) (c : BitVec 32) (j : s.Idx) :
    mulf (extf .f32 z h) (broadcast s (Scalar.ofBits (F := Ideal) .f32 c)) j = z j * Ideal.ofBits .f32 c := by rfl

/-- A token's greatest magnitude, scaled, with the reduction still written. -/
theorem pay5_red (x : Vec Ideal S512x1536 .bf16) (j : S512x1.Idx) :
    k0_pay5 x j
      = (shapeCast S512x1 (multiReduction (F := Ideal) .maximumf [1] S512 (absf (k0_pay4 x)) 0xFF80#16 reduces_S512x1536_S512 (.inr rfl) rfl) shapeCasts_S512_S512x1 j) * Ideal.ofBits .f32 0x3B124925#32 :=
  mulf_const _ _ _ j

/-- The scaled maximum of each token. -/
theorem pay5_eq (x : Vec Ideal S512x1536 .bf16) (j : S512x1.Idx) :
    k0_pay5 x j = Cert.Spec.scaled (Cert.Spec.row (R := 512) (C := 1536) x (j 0)) := by
  refine (pay5_red x j).trans ?_
  rw [pay4_eq]
  refine congrArg (· * Ideal.ofBits .f32 0x3B124925#32) ?_
  exact Cert.Rows.rowMaxCol (R := 512) (C := 1536) (φ := .bf16) 0xFF80#16 negInf (absf (F := Ideal) x)
    reduces_S512x1536_S512 (.inr rfl) rfl shapeCasts_S512_S512x1 j

/-- One halving of the interval of exponent fields, at an index. -/
theorem stp_apply {s : Shape} (v : FVec Ideal s .f32) (b : IVec s 32) (n : BitVec 32) (j : s.Idx) :
    select (cmpf .oge v (bitcastToFloat (F := Ideal) .f32 (shli (addi b (broadcast s n)) (broadcast s 23#32)))) (addi b (broadcast s n)) b j
      = Cert.Exponent.stp (v j) n (b j) := rfl

/-- The field after the first three halvings. -/
theorem pay6_eq (x : Vec Ideal S512x1536 .bf16) (j : S512x1.Idx) :
    k0_pay6 x j = Cert.Exponent.stp (k0_pay5 x j) 32#32 (Cert.Exponent.stp (k0_pay5 x j) 64#32 (Cert.Exponent.stp (k0_pay5 x j) 128#32 0#32)) := by
  unfold k0_pay6
  refine (stp_apply _ _ _ j).trans (congrArg _ ?_)
  refine (stp_apply _ _ _ j).trans (congrArg _ ?_)
  exact stp_apply _ _ _ j

/-- The field after the other five. -/
theorem pay8_eq (v : FVec Ideal S512x1 .f32) (b : IVec S512x1 32) (j : S512x1.Idx) :
    k0_pay8 v b (addi b (broadcast S512x1 16#32)) j
      = Cert.Exponent.stp (v j) 1#32 (Cert.Exponent.stp (v j) 2#32 (Cert.Exponent.stp (v j) 4#32 (Cert.Exponent.stp (v j) 8#32
          (Cert.Exponent.stp (v j) 16#32 (b j))))) := by
  unfold k0_pay8
  refine (stp_apply _ _ _ j).trans (congrArg _ ?_)
  refine (stp_apply _ _ _ j).trans (congrArg _ ?_)
  refine (stp_apply _ _ _ j).trans (congrArg _ ?_)
  refine (stp_apply _ _ _ j).trans (congrArg _ ?_)
  exact stp_apply _ _ _ j

/-- The biased exponent of each token. -/
theorem expV_eq (x : Vec Ideal S512x1536 .bf16) (j : S512x1.Idx) : expV x j = Cert.Exponent.field (k0_pay5 x j) := by
  refine (pay8_eq (k0_pay5 x) (k0_pay6 x) j).trans ?_
  rw [pay6_eq]
  rfl

/-- The unbiased exponent, at an index. -/
theorem unb_apply (b : IVec S512x1 32) (j : S512x1.Idx) :
    k0_pay10 b (cmpi .eq b (broadcast S512x1 0#32)) j = Cert.Exponent.unb (b j) := rfl

/-- The unbiased exponent of each token. -/
theorem pay10_eq (x : Vec Ideal S512x1536 .bf16) (j : S512x1.Idx) :
    k0_pay10 (expV x) (flagV x) j = Cert.Exponent.unb (Cert.Exponent.field (k0_pay5 x j)) :=
  (unb_apply (expV x) j).trans (congrArg Cert.Exponent.unb (expV_eq x j))

/-- The power of two of an exponent, at an index. -/
theorem pay11_apply (b : IVec S512x1 32) (f : IVec S512x1 1) (j : S512x1.Idx) :
    k0_pay11 (F := Ideal) b f j = Cert.Exponent.powW (k0_pay10 b f j) := rfl

/-- The scale of each token, from its scaled maximum. -/
theorem scaleV_red (x : Vec Ideal S512x1536 .bf16) (j : S512x1.Idx) :
    scaleV x j = Cert.Exponent.powW (Cert.Exponent.unb (Cert.Exponent.field (k0_pay5 x j))) :=
  (pay11_apply (expV x) (flagV x) j).trans (congrArg Cert.Exponent.powW (pay10_eq x j))

/-- The scales. -/
theorem scaleV_eq (x : Vec Ideal S512x1536 .bf16) : scaleV x = Cert.Spec.scales (R := 512) x := by
  funext j
  rw [scaleV_red, pay5_eq]
  rfl

/-- One code, from its token's exponent. -/
theorem codesV_red (x : Vec Ideal S512x1536 .bf16) (j : S512x1536.Idx) :
    codesV x j = min (Ideal.ofBits .f32 0x43E00000#32) (max (Ideal.ofBits .f32 0xC3E00000#32)
      (x j * Cert.Exponent.powW (IntOp.subi 0#32 (k0_pay10 (expV x) (flagV x) (ix2 (n0 := 512) (n1 := 1) (j 0) 0))))) := by
  unfold codesV k0_pay12 k0_pay4
  pointwise
  rfl

/-- The codes. -/
theorem codesV_eq (x : Vec Ideal S512x1536 .bf16) : codesV x = Cert.Spec.codes (R := 512) x := by
  funext j
  obtain ⟨i, k, rfl⟩ : ∃ (i : Fin 512) (k : Fin 1536), j = ix2 (n0 := 512) (n1 := 1536) i k := ⟨j 0, j 1, eq_ix2 j⟩
  refine (codesV_red _ _).trans ?_
  refine congrArg (fun z => min (Ideal.ofBits .f32 0x43E00000#32) (max (Ideal.ofBits .f32 0xC3E00000#32)
    (x (ix2 (n0 := 512) (n1 := 1536) i k) * Cert.Exponent.powW (IntOp.subi 0#32 z)))) ?_
  refine (pay10_eq x (ix2 (n0 := 512) (n1 := 1) i 0)).trans ?_
  rw [pay5_eq]
  rfl

/-- The tokens through lora_A. -/
theorem hV_eq (x : Vec Ideal S512x1536 .bf16) (a : Vec Ideal S48x1536 .bf16) (j : S512x48.Idx) :
    hV x a j = Cert.Spec.hidden (Cert.Spec.row (R := 512) (C := 1536) x (j 0)) (Cert.Spec.row (R := 48) (C := 1536) a) (j 1) := by
  unfold hV k0_pay13 k0_pay4
  pointwise
  rfl

end Cert.KernelIdeal.Value

end
-- ==== Proof.ChunkMath.lean ====
/- What one column chunk of the kernel's result holds, entry by entry, over the extended reals, whichever of the ten
   stores wrote it. -/
module

public import proofs.«01_k».proof.Proof.BlockQuant

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem
open scoped BigOperators

/-- One chunk of the result, from its tokens' scales, codes and images under lora_A. -/
def chunkY (s : FVec Ideal S512x1 .f32) (q : FVec Ideal S512x1536 .fp8e4m3) (h : FVec Ideal S512x48 .bf16)
    (w : Vec Ideal S512x1536 .fp8e4m3) (b : Vec Ideal S512x48 .bf16) (ws g : Vec Ideal S1x512 .f32) (j : S512x512.Idx) : EReal :=
  ((∑ k : Fin 1536, q (ix2 (n0 := 512) (n1 := 1536) (j 0) k) * w (ix2 (n0 := 512) (n1 := 1536) (j 1) k))
      * s (ix2 (n0 := 512) (n1 := 1) (j 0) 0) * ws (ix2 (n0 := 1) (n1 := 512) 0 (j 1))
    + Cert.Spec.half * ∑ k : Fin 48, h (ix2 (n0 := 512) (n1 := 48) (j 0) k) * b (ix2 (n0 := 512) (n1 := 48) (j 1) k))
    * g (ix2 (n0 := 1) (n1 := 512) 0 (j 1))

section
variable (x : Vec Ideal S512x1536 .bf16) (a : Vec Ideal S48x1536 .bf16)
  (s : FVec Ideal S512x1 .f32) (q : FVec Ideal S512x1536 .fp8e4m3) (h : FVec Ideal S512x48 .bf16)
  (w : Vec Ideal S512x1536 .fp8e4m3) (b : Vec Ideal S512x48 .bf16) (ws g : Vec Ideal S1x512 .f32) (j : S512x512.Idx)

/-- Chunk 0. -/
theorem chunk0_eq : k0_pay14 (k0_pay4 x) s q a w b ws g j = chunkY s q (hV x a) w b ws g j := by
  unfold k0_pay14 hV
  pointwise
  rfl

/-- Chunk 1. -/
theorem chunk1_eq : k0_pay16 (k0_pay15 (k0_pay4 x) s q a w b ws) g j = chunkY s q (hV x a) w b ws g j := by
  unfold k0_pay16 k0_pay15 hV
  pointwise
  rfl

/-- Chunk 2. -/
theorem chunk2_eq : k0_pay17 s q h w b ws g j = chunkY s q h w b ws g j := by
  unfold k0_pay17
  pointwise
  rfl

/-- Chunk 3. -/
theorem chunk3_eq : k0_pay20 (k0_pay18 s q w ws) (k0_pay19 h b) g j = chunkY s q h w b ws g j := by
  unfold k0_pay20 k0_pay18 k0_pay19
  pointwise
  rfl

/-- Chunk 4. -/
theorem chunk4_eq : k0_pay21 s q h w b ws g j = chunkY s q h w b ws g j := by
  unfold k0_pay21
  pointwise
  rfl

/-- Chunk 5. -/
theorem chunk5_eq : k0_pay25 (k0_pay22 h b) (k0_pay23 s q w) (k0_pay24 ws) g j = chunkY s q h w b ws g j := by
  unfold k0_pay25 k0_pay22 k0_pay23 k0_pay24
  pointwise
  rfl

/-- Chunk 6. -/
theorem chunk6_eq : k0_pay26 s q h w b ws g j = chunkY s q h w b ws g j := by
  unfold k0_pay26
  pointwise
  rfl

/-- Chunk 7. -/
theorem chunk7_eq : k0_pay29 (k0_pay27 h b) (k0_pay28 s q w) ws g j = chunkY s q h w b ws g j := by
  unfold k0_pay29 k0_pay27 k0_pay28
  pointwise
  rfl

/-- Chunk 8. -/
theorem chunk8_eq : k0_pay30 s q h w b ws g j = chunkY s q h w b ws g j := by
  unfold k0_pay30
  pointwise
  rfl

/-- Chunk 9. -/
theorem chunk9_eq : k0_pay1 s h (k0_pay31 q w) b (constant S512x512 .f32 0x00000000#32) ws g j = chunkY s q h w b ws g j := by
  unfold k0_pay1 k0_pay31
  pointwise
  rfl

end

end Cert.KernelIdeal.Value

end
-- ==== Proof.YBlock.lean ====
/- The kernel's result block, entry by entry, over the extended reals: its ten column chunks make up the problem's
   result for the block's tokens. -/
module

public import proofs.«01_k».proof.Proof.ChunkMath

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem
open scoped BigOperators

/-- Where a chunk's entry sits in the result block. -/
theorem embY (o : ℕ) (hy : ∀ a, (![0, o] : Fin 2 → Nat) a + S512x512.size a ≤ S512x5120.size a) (i c : Fin 512) (ho : o + c.val < 5120) :
    (Rect.unit (s := S512x5120) ![0, o] S512x512.size hy).emb (ix2 (n0 := 512) (n1 := 512) i c)
      = ix2 (n0 := 512) (n1 := 5120) i ⟨o + c.val, ho⟩ := by
  refine funext fun a => Fin.ext ?_
  match a with
  | ⟨0, _⟩ => show 0 + 1 * i.val = i.val; omega
  | ⟨1, _⟩ => show o + 1 * c.val = o + c.val; omega

/-- Where a chunk's row of codes sits among all of them. -/
theorem ldW (x : Vec Ideal S5120x1536 .fp8e4m3) (o : ℕ) (hw : ∀ a, (![o, 0] : Fin 2 → Nat) a + S512x1536.size a ≤ S5120x1536.size a)
    (c : Fin 512) (k : Fin 1536) (ho : o + c.val < 5120) :
    View.ld x (Rect.unit (s := S5120x1536) ![o, 0] S512x1536.size hw) (ix2 (n0 := 512) (n1 := 1536) c k)
      = x (ix2 (n0 := 5120) (n1 := 1536) ⟨o + c.val, ho⟩ k) := by
  refine congrArg x (funext fun a => Fin.ext ?_)
  match a with
  | ⟨0, _⟩ => show o + 1 * c.val = o + c.val; omega
  | ⟨1, _⟩ => show 0 + 1 * k.val = k.val; omega

/-- Where a chunk's row of lora_B sits among all of them. -/
theorem ldB (x : Vec Ideal S5120x48 .bf16) (o : ℕ) (hw : ∀ a, (![o, 0] : Fin 2 → Nat) a + S512x48.size a ≤ S5120x48.size a)
    (c : Fin 512) (k : Fin 48) (ho : o + c.val < 5120) :
    View.ld x (Rect.unit (s := S5120x48) ![o, 0] S512x48.size hw) (ix2 (n0 := 512) (n1 := 48) c k)
      = x (ix2 (n0 := 5120) (n1 := 48) ⟨o + c.val, ho⟩ k) := by
  refine congrArg x (funext fun a => Fin.ext ?_)
  match a with
  | ⟨0, _⟩ => show o + 1 * c.val = o + c.val; omega
  | ⟨1, _⟩ => show 0 + 1 * k.val = k.val; omega

/-- Where a chunk's entry of a row sits in the row. -/
theorem ldS (x : Vec Ideal S1x5120 .f32) (o : ℕ) (hs : ∀ a, (![0, o] : Fin 2 → Nat) a + S1x512.size a ≤ S1x5120.size a)
    (c : Fin 512) (ho : o + c.val < 5120) :
    View.ld x (Rect.unit (s := S1x5120) ![0, o] S1x512.size hs) (ix2 (n0 := 1) (n1 := 512) 0 c)
      = x (ix2 (n0 := 1) (n1 := 5120) 0 ⟨o + c.val, ho⟩) := by
  refine congrArg x (funext fun a => Fin.ext ?_)
  match a with
  | ⟨0, _⟩ => rfl
  | ⟨1, _⟩ => show o + 1 * c.val = o + c.val; omega

/-- The result of the problem for a block of tokens, at an entry of a chunk. -/
theorem chunk_at (x : Vec Ideal S512x1536 .bf16) (x1 : Vec Ideal S5120x1536 .fp8e4m3) (x2 : Vec Ideal S1x5120 .f32)
    (x3 : Vec Ideal S48x1536 .bf16) (x4 : Vec Ideal S5120x48 .bf16) (g : Vec Ideal S1x5120 .f32) (o : ℕ)
    (hy : ∀ a, (![0, o] : Fin 2 → Nat) a + S512x512.size a ≤ S512x5120.size a)
    (hw : ∀ a, (![o, 0] : Fin 2 → Nat) a + S512x1536.size a ≤ S5120x1536.size a)
    (hb : ∀ a, (![o, 0] : Fin 2 → Nat) a + S512x48.size a ≤ S5120x48.size a)
    (hs : ∀ a, (![0, o] : Fin 2 → Nat) a + S1x512.size a ≤ S1x5120.size a) (j : S512x512.Idx) :
    chunkY (scaleV x) (codesV x) (hV x x3) (View.ld x1 (Rect.unit (s := S5120x1536) ![o, 0] S512x1536.size hw))
        (View.ld x4 (Rect.unit (s := S5120x48) ![o, 0] S512x48.size hb))
        (View.ld x2 (Rect.unit (s := S1x5120) ![0, o] S1x512.size hs))
        (View.ld g (Rect.unit (s := S1x5120) ![0, o] S1x512.size hs)) j
      = Cert.Spec.outs (R := 512) x x1 x2 x3 x4 g ((Rect.unit (s := S512x5120) ![0, o] S512x512.size hy).emb j) := by
  obtain ⟨i, c, rfl⟩ : ∃ (i : Fin 512) (c : Fin 512), j = ix2 (n0 := 512) (n1 := 512) i c := ⟨j 0, j 1, eq_ix2 j⟩
  have ho : o + c.val < 5120 := by
    have h1 : o + 512 ≤ 5120 := hs 1
    have h2 := c.isLt
    omega
  rw [embY o hy i c ho, scaleV_eq, codesV_eq]
  unfold chunkY
  have e1 : ∀ k : Fin 1536, View.ld x1 (Rect.unit (s := S5120x1536) ![o, 0] S512x1536.size hw)
      (ix2 (n0 := 512) (n1 := 1536) (ix2 (n0 := 512) (n1 := 512) i c 1) k) = _ := fun k => ldW x1 o hw c k ho
  have e2 : ∀ k : Fin 48, View.ld x4 (Rect.unit (s := S5120x48) ![o, 0] S512x48.size hb)
      (ix2 (n0 := 512) (n1 := 48) (ix2 (n0 := 512) (n1 := 512) i c 1) k) = _ := fun k => ldB x4 o hb c k ho
  have e3 : View.ld x2 (Rect.unit (s := S1x5120) ![0, o] S1x512.size hs)
      (ix2 (n0 := 1) (n1 := 512) 0 (ix2 (n0 := 512) (n1 := 512) i c 1)) = _ := ldS x2 o hs c ho
  have e4 : View.ld g (Rect.unit (s := S1x5120) ![0, o] S1x512.size hs)
      (ix2 (n0 := 1) (n1 := 512) 0 (ix2 (n0 := 512) (n1 := 512) i c 1)) = _ := ldS g o hs c ho
  simp only [e1, e2, e3, e4, hV_eq]
  rfl

/-- The result block. -/
theorem out6_eq (x0 : Vec Ideal S512x1536 .bf16) (x1 : Vec Ideal S5120x1536 .fp8e4m3) (x2 : Vec Ideal S1x5120 .f32)
    (x3 : Vec Ideal S48x1536 .bf16) (x4 : Vec Ideal S5120x48 .bf16) (g : Vec Ideal S1x5120 .f32) :
    out6 x0 x1 x2 x3 x4 g = Cert.Spec.outs (R := 512) x0 x1 x2 x3 x4 g := by
  funext y
  unfold out6
  refine View.canon_apply_of_pieces _ (out6L x0 x1 x2 x3 x4 g) ?_ y (cover6 x0 x1 x2 x3 x4 g y)
  unfold out6L
  rw [View.ld_unit_zero zero2 inb_S512x1536_S512x1536_0_0 x0, View.ld_unit_zero zero2 inb_S48x1536_S48x1536_0_0 x3]
  intro p hp
  simp only [List.mem_cons, List.not_mem_nil, or_false] at hp
  rcases hp with rfl | rfl | rfl | rfl | rfl | rfl | rfl | rfl | rfl | rfl
  · exact fun j => (chunk9_eq _ _ _ _ _ _ _ j).trans (chunk_at x0 x1 x2 x3 x4 g 4608 inb_S512x5120_S512x512_0_4608 inb_S5120x1536_S512x1536_4608_0 inb_S5120x48_S512x48_4608_0 inb_S1x5120_S1x512_0_4608 j)
  · exact fun j => (chunk8_eq _ _ _ _ _ _ _ j).trans (chunk_at x0 x1 x2 x3 x4 g 4096 inb_S512x5120_S512x512_0_4096 inb_S5120x1536_S512x1536_4096_0 inb_S5120x48_S512x48_4096_0 inb_S1x5120_S1x512_0_4096 j)
  · exact fun j => (chunk7_eq _ _ _ _ _ _ _ j).trans (chunk_at x0 x1 x2 x3 x4 g 3584 inb_S512x5120_S512x512_0_3584 inb_S5120x1536_S512x1536_3584_0 inb_S5120x48_S512x48_3584_0 inb_S1x5120_S1x512_0_3584 j)
  · exact fun j => (chunk6_eq _ _ _ _ _ _ _ j).trans (chunk_at x0 x1 x2 x3 x4 g 3072 inb_S512x5120_S512x512_0_3072 inb_S5120x1536_S512x1536_3072_0 inb_S5120x48_S512x48_3072_0 inb_S1x5120_S1x512_0_3072 j)
  · exact fun j => (chunk5_eq _ _ _ _ _ _ _ j).trans (chunk_at x0 x1 x2 x3 x4 g 2560 inb_S512x5120_S512x512_0_2560 inb_S5120x1536_S512x1536_2560_0 inb_S5120x48_S512x48_2560_0 inb_S1x5120_S1x512_0_2560 j)
  · exact fun j => (chunk4_eq _ _ _ _ _ _ _ j).trans (chunk_at x0 x1 x2 x3 x4 g 2048 inb_S512x5120_S512x512_0_2048 inb_S5120x1536_S512x1536_2048_0 inb_S5120x48_S512x48_2048_0 inb_S1x5120_S1x512_0_2048 j)
  · exact fun j => (chunk3_eq _ _ _ _ _ _ _ j).trans (chunk_at x0 x1 x2 x3 x4 g 1536 inb_S512x5120_S512x512_0_1536 inb_S5120x1536_S512x1536_1536_0 inb_S5120x48_S512x48_1536_0 inb_S1x5120_S1x512_0_1536 j)
  · exact fun j => (chunk2_eq _ _ _ _ _ _ _ j).trans (chunk_at x0 x1 x2 x3 x4 g 1024 inb_S512x5120_S512x512_0_1024 inb_S5120x1536_S512x1536_1024_0 inb_S5120x48_S512x48_1024_0 inb_S1x5120_S1x512_0_1024 j)
  · exact fun j => (chunk1_eq x0 x3 _ _ _ _ _ _ j).trans (chunk_at x0 x1 x2 x3 x4 g 512 inb_S512x5120_S512x512_0_512 inb_S5120x1536_S512x1536_512_0 inb_S5120x48_S512x48_512_0 inb_S1x5120_S1x512_0_512 j)
  · exact fun j => (chunk0_eq x0 x3 _ _ _ _ _ _ j).trans (chunk_at x0 x1 x2 x3 x4 g 0 inb_S512x5120_S512x512_0_0 inb_S5120x1536_S512x1536_0_0 inb_S5120x48_S512x48_0_0 inb_S1x5120_S1x512_0_0 j)

end Cert.KernelIdeal.Value

end
-- ==== Proof.NormMath.lean ====
/- What the kernel's norm loop computes, entry by entry, over the extended reals. -/
module

public import proofs.«01_k».proof.Proof.LoopVals
public import proofs.«01_k».proof.Proof.Spec
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem
open scoped BigOperators

/-- A sum of 1536 terms is the sum over 128 places of the twelve terms 128 apart. -/
theorem sum12 (f : Fin 1536 → EReal) :
    (∑ x : Fin 128, (f ⟨x.val, by omega⟩ + f ⟨128 + x.val, by omega⟩ + f ⟨256 + x.val, by omega⟩ + f ⟨384 + x.val, by omega⟩
      + f ⟨512 + x.val, by omega⟩ + f ⟨640 + x.val, by omega⟩ + f ⟨768 + x.val, by omega⟩ + f ⟨896 + x.val, by omega⟩
      + f ⟨1024 + x.val, by omega⟩ + f ⟨1152 + x.val, by omega⟩ + f ⟨1280 + x.val, by omega⟩ + f ⟨1408 + x.val, by omega⟩))
      = ∑ k, f k := by
  have e : ∑ k, f k = ∑ p : Fin 12 × Fin 128, f (finProdFinEquiv p) := (Equiv.sum_comp (finProdFinEquiv (m := 12) (n := 128)) f).symm
  rw [e, Fintype.sum_prod_type, Finset.sum_comm]
  refine Finset.sum_congr rfl fun x _ => ?_
  simp only [Fin.sum_univ_succ, Fin.sum_univ_zero, add_zero]
  simp only [← add_assoc]
  iterate 11 refine congrArg₂ (· + ·) ?_ (congrArg f (Fin.ext (by simp [finProdFinEquiv]; try omega)))
  exact congrArg f (Fin.ext (by simp [finProdFinEquiv]))

/-- One chunk's norms. -/
theorem pay2_eq (b : Vec Ideal S256x48 .bf16) (a : Vec Ideal S48x1536 .bf16) (ws : Vec Ideal S1x256 .f32)
    (w : Vec Ideal S256x1536 .fp8e4m3) (j : S1x256.Idx) :
    k0_pay2 b a ws w j = Cert.Spec.norm (Cert.Spec.row (R := 256) (C := 1536) w (j 1)) (ws (ix2 (n0 := 1) (n1 := 256) 0 (j 1)))
      (Cert.Spec.row (R := 48) (C := 1536) a) (Cert.Spec.row (R := 256) (C := 48) b (j 1)) := by
  unfold Cert.Spec.norm
  rw [← sum12]
  unfold k0_pay2
  pointwise
  rfl

end Cert.KernelIdeal.Value

end
-- ==== Proof.NormRow.lean ====
/- The two rows the norm loop leaves behind are the norms and the gains of the problem. -/
module

public import proofs.«01_k».proof.Proof.NormMath

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

/-- Column c is column c mod 256 of chunk c div 256. -/
theorem col_split (i : Fin 1) (c : Fin 5120) (h : 256 * (c.val / 256) + c.val % 256 < 5120) :
    (⟨256 * (c.val / 256) + c.val % 256, h⟩ : Fin 5120) = c := Fin.ext (Nat.div_add_mod _ _)

/-- A row of a chunk of the codes is the row of the codes. -/
theorem rowsW_at (x : Vec Ideal S5120x1536 .fp8e4m3) (i : Fin 1) (c : Fin 5120) (k : Fin 1536) :
    rowsW x (chunkOf (ix2 (n0 := 1) (n1 := 5120) i c)) (ix2 (n0 := 256) (n1 := 1536) (withinOf (ix2 (n0 := 1) (n1 := 5120) i c) 1) k)
      = x (ix2 (n0 := 5120) (n1 := 1536) c k) :=
  congrArg (fun z : Fin 5120 => x (ix2 (n0 := 5120) (n1 := 1536) z k)) (Fin.ext (Nat.div_add_mod c.val 256))

/-- A row of a chunk of lora_B is the row of lora_B. -/
theorem rowsB_at (x : Vec Ideal S5120x48 .bf16) (i : Fin 1) (c : Fin 5120) (k : Fin 48) :
    rowsB x (chunkOf (ix2 (n0 := 1) (n1 := 5120) i c)) (ix2 (n0 := 256) (n1 := 48) (withinOf (ix2 (n0 := 1) (n1 := 5120) i c) 1) k)
      = x (ix2 (n0 := 5120) (n1 := 48) c k) :=
  congrArg (fun z : Fin 5120 => x (ix2 (n0 := 5120) (n1 := 48) z k)) (Fin.ext (Nat.div_add_mod c.val 256))

/-- An entry of a chunk of a row is the entry of the row. -/
theorem colsR_at (x : Vec Ideal S1x5120 .f32) (i : Fin 1) (c : Fin 5120) :
    colsR x (chunkOf (ix2 (n0 := 1) (n1 := 5120) i c)) (ix2 (n0 := 1) (n1 := 256) 0 (withinOf (ix2 (n0 := 1) (n1 := 5120) i c) 1))
      = x (ix2 (n0 := 1) (n1 := 5120) 0 c) :=
  congrArg (fun z : Fin 5120 => x (ix2 (n0 := 1) (n1 := 5120) 0 z)) (Fin.ext (Nat.div_add_mod c.val 256))

/-- The norm reads a row of the codes, a weight scale and a row of lora_B. -/
theorem norm_congr {w w' : Fin 1536 → EReal} {ws ws' : EReal} (A : Fin 48 → Fin 1536 → EReal) {b b' : Fin 48 → EReal}
    (hw : w = w') (hs : ws = ws') (hb : b = b') : Cert.Spec.norm w ws A b = Cert.Spec.norm w' ws' A b' := by
  subst hw hs hb; rfl

/-- The norm row. -/
theorem cnRow_eq (x1 : Vec Ideal S5120x1536 .fp8e4m3) (x2 : Vec Ideal S1x5120 .f32) (x3 : Vec Ideal S48x1536 .bf16)
    (x4 : Vec Ideal S5120x48 .bf16) : cnRow x1 x2 x3 x4 = Cert.Spec.norms x1 x2 x3 x4 := by
  funext j
  obtain ⟨i, c, rfl⟩ : ∃ (i : Fin 1) (c : Fin 5120), j = ix2 (n0 := 1) (n1 := 5120) i c := ⟨j 0, j 1, eq_ix2 j⟩
  refine (pay2_eq _ _ _ _ _).trans ?_
  exact norm_congr _ (funext (rowsW_at x1 i c)) (colsR_at x2 i c) (funext (rowsB_at x4 i c))

/-- A division of two rows, at an index. -/
theorem pay3_apply (a : FVec Ideal S1x256 .f32) (b : Vec Ideal S1x256 .f32) (j : S1x256.Idx) :
    k0_pay3 a b j = Ideal.div (b j) (a j) := by
  unfold k0_pay3
  pointwise

/-- The gain row. -/
theorem gRow_eq (x1 : Vec Ideal S5120x1536 .fp8e4m3) (x2 : Vec Ideal S1x5120 .f32) (x3 : Vec Ideal S48x1536 .bf16)
    (x4 : Vec Ideal S5120x48 .bf16) (x5 : Vec Ideal S1x5120 .f32) :
    gRow x1 x2 x3 x4 x5 = Cert.Spec.gains x1 x2 x3 x4 x5 := by
  funext j
  refine (pay3_apply _ _ _).trans ?_
  refine congrArg₂ Ideal.div ?_ (congrFun (cnRow_eq x1 x2 x3 x4) j)
  obtain ⟨i, c, rfl⟩ : ∃ (i : Fin 1) (c : Fin 5120), j = ix2 (n0 := 1) (n1 := 5120) i c := ⟨j 0, j 1, eq_ix2 j⟩
  obtain rfl : i = 0 := Subsingleton.elim _ _
  exact colsR_at x5 0 c

end Cert.KernelIdeal.Value

end
-- ==== Proof.KerEntry.lean ====
/- What the arrays that the launch of KernelIdeal reads hold when it starts. -/
module

public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-- The tokens as rows. -/
theorem V_v0 (c : Dev nD) : (V m c main_v0 : Vec Ideal S12288x1536 .bf16)
    = shapeCast S12288x1536 (m ((c : Thread nD τ).loc main_arg0)) shapeCasts_S24x512x1536_S12288x1536 := by
  funext j
  entry_read
  rfl

/-- The weight scales as a row. -/
theorem V_v1 (c : Dev nD) : (V m c main_v1 : Vec Ideal S1x5120 .f32)
    = shapeCast S1x5120 (m ((c : Thread nD τ).loc main_arg2)) shapeCasts_S5120_S1x5120 := by
  funext j
  entry_read
  rfl

/-- The magnitudes as a row. -/
theorem V_v2 (c : Dev nD) : (V m c main_v2 : Vec Ideal S1x5120 .f32)
    = shapeCast S1x5120 (m ((c : Thread nD τ).loc main_arg5)) shapeCasts_S5120_S1x5120 := by
  funext j
  entry_read
  rfl

end Cert.KernelIdeal.Value

end
-- ==== Proof.KerArrays.lean ====
/- The arrays that the kernel leaves: the problem's mathematics of the arrays its launch starts from. -/
module

public import proofs.«01_k».proof.Proof.ValueRun
public import proofs.«01_k».proof.Proof.YBlock
public import proofs.«01_k».proof.Proof.NormRow
public import proofs.«01_k».proof.Proof.KerEntry

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-- The weight codes' window stays at the origin. -/
theorem idx1 : ∀ t, win0_1.index t = ![0, 0] := (by decide +kernel : ∀ t : Fin grid0.N, win0_1.index t = ![0, 0])

/-- Window 1's block is its whole array at every point. -/
theorem iblk1_eq (c : Dev nD) (t : Fin cfg0.N) : (iblk m c 1 t : Vec Ideal S5120x1536 .fp8e4m3) = V m c main_arg1 := by
  funext j
  blk_ext [iblk, idx1 t]

/-- The weight scales' window stays at the origin. -/
theorem idx2 : ∀ t, win0_2.index t = ![0, 0] := (by decide +kernel : ∀ t : Fin grid0.N, win0_2.index t = ![0, 0])

/-- Window 2's block is its whole array at every point. -/
theorem iblk2_eq (c : Dev nD) (t : Fin cfg0.N) : (iblk m c 2 t : Vec Ideal S1x5120 .f32) = V m c main_v1 := by
  funext j
  blk_ext [iblk, idx2 t]

/-- lora_A's window stays at the origin. -/
theorem idx3 : ∀ t, win0_3.index t = ![0, 0] := (by decide +kernel : ∀ t : Fin grid0.N, win0_3.index t = ![0, 0])

/-- Window 3's block is its whole array at every point. -/
theorem iblk3_eq (c : Dev nD) (t : Fin cfg0.N) : (iblk m c 3 t : Vec Ideal S48x1536 .bf16) = V m c main_arg3 := by
  funext j
  blk_ext [iblk, idx3 t]

/-- lora_B's window stays at the origin. -/
theorem idx4 : ∀ t, win0_4.index t = ![0, 0] := (by decide +kernel : ∀ t : Fin grid0.N, win0_4.index t = ![0, 0])

/-- Window 4's block is its whole array at every point. -/
theorem iblk4_eq (c : Dev nD) (t : Fin cfg0.N) : (iblk m c 4 t : Vec Ideal S5120x48 .bf16) = V m c main_arg4 := by
  funext j
  blk_ext [iblk, idx4 t]

/-- The magnitudes' window stays at the origin. -/
theorem idx5 : ∀ t, win0_5.index t = ![0, 0] := (by decide +kernel : ∀ t : Fin grid0.N, win0_5.index t = ![0, 0])

/-- Window 5's block is its whole array at every point. -/
theorem iblk5_eq (c : Dev nD) (t : Fin cfg0.N) : (iblk m c 5 t : Vec Ideal S1x5120 .f32) = V m c main_v2 := by
  funext j
  blk_ext [iblk, idx5 t]

/-- x's window is at the point's own block of rows. -/
theorem idx0 : ∀ t, win0_0.index t = ![(grid0.coords t 0).val, 0] :=
  (by decide +kernel : ∀ t : Fin grid0.N, win0_0.index t = ![(grid0.coords t 0).val, 0])
/-- The results' window is at the point's own block of rows. -/
theorem idx6 : ∀ t, win0_6.index t = ![(grid0.coords t 0).val, 0] :=
  (by decide +kernel : ∀ t : Fin grid0.N, win0_6.index t = ![(grid0.coords t 0).val, 0])
/-- The codes' window is at the point's own block of rows. -/
theorem idx8 : ∀ t, win0_8.index t = ![(grid0.coords t 0).val, 0] :=
  (by decide +kernel : ∀ t : Fin grid0.N, win0_8.index t = ![(grid0.coords t 0).val, 0])
/-- The scales' window is at the point's own block of rows. -/
theorem idx9 : ∀ t, win0_9.index t = ![(grid0.coords t 0).val, 0] :=
  (by decide +kernel : ∀ t : Fin grid0.N, win0_9.index t = ![(grid0.coords t 0).val, 0])

/-- A point's row i is row 512t + i of all the tokens. -/
def tokenAt (t : Fin cfg0.N) (i : Fin 512) : Fin 12288 :=
  ⟨(grid0.coords t 0).val * 512 + i.val, by
    have h : (grid0.coords t 0).val < 24 := (grid0.coords t 0).isLt
    have := i.isLt
    omega⟩

/-- An entry of a block of x's window is the array's entry 512 rows further down for each point. -/
theorem emb0 (t : Fin cfg0.N) (i : Fin 512) (k : Fin 1536) :
    ((cfg0.win 0).blk t).view.emb (ix2 (n0 := 512) (n1 := 1536) i k) = ix2 (n0 := 12288) (n1 := 1536) (tokenAt t i) k := by
  blk_ext [idx0 t, tokenAt]

/-- A row of a point's token block. -/
theorem row_eq (c : Dev nD) (t : Fin cfg0.N) (i : Fin 512) :
    Cert.Spec.row (R := 512) (C := 1536) (iblk m c 0 t : Vec Ideal S512x1536 .bf16) i
      = Cert.Spec.row (R := 12288) (C := 1536) (V m c main_v0 : Vec Ideal S12288x1536 .bf16) (tokenAt t i) := by
  funext k
  exact congrArg (V m c main_v0 : Vec Ideal S12288x1536 .bf16) (emb0 t i k)

/-- An entry of a block of the results' window is the array's entry 512 rows further down for each point. -/
theorem emb6 (t : Fin cfg0.N) (i : Fin 512) (k : Fin 5120) :
    ((cfg0.win 6).blk t).view.emb (ix2 (n0 := 512) (n1 := 5120) i k) = ix2 (n0 := 12288) (n1 := 5120) (tokenAt t i) k := by
  blk_ext [idx6 t, tokenAt]
/-- An entry of a block of the codes' window is the array's entry 512 rows further down for each point. -/
theorem emb8 (t : Fin cfg0.N) (i : Fin 512) (k : Fin 1536) :
    ((cfg0.win 8).blk t).view.emb (ix2 (n0 := 512) (n1 := 1536) i k) = ix2 (n0 := 12288) (n1 := 1536) (tokenAt t i) k := by
  blk_ext [idx8 t, tokenAt]
/-- An entry of a block of the scales' window is the array's entry 512 rows further down for each point. -/
theorem emb9 (t : Fin cfg0.N) (i : Fin 512) (k : Fin 1) :
    ((cfg0.win 9).blk t).view.emb (ix2 (n0 := 512) (n1 := 1) i k) = ix2 (n0 := 12288) (n1 := 1) (tokenAt t i) k := by
  blk_ext [idx9 t, tokenAt]

/-- The norm row. -/
theorem cnAt_eq (c : Dev nD) : cnAt m c = Cert.Spec.norms (V m c main_arg1) (V m c main_v1) (V m c main_arg3) (V m c main_arg4) := by
  unfold cnAt
  rw [cnRow_eq, iblk1_eq, iblk2_eq, iblk3_eq, iblk4_eq]

/-- The gain row. -/
theorem gAt_eq (c : Dev nD) : gAt m c
    = Cert.Spec.gains (V m c main_arg1) (V m c main_v1) (V m c main_arg3) (V m c main_arg4) (V m c main_v2) := by
  unfold gAt
  rw [gRow_eq, iblk1_eq, iblk2_eq, iblk3_eq, iblk4_eq, iblk5_eq]

/-- The array of the result. -/
theorem arr6 (c : Dev nD) : ((dats m 0 c).arrAt 6 cfg0.N : Vec Ideal S12288x5120 .bf16)
    = Cert.Spec.outs (R := 12288) (V m c main_v0) (V m c main_arg1) (V m c main_v1) (V m c main_arg3) (V m c main_arg4)
        (Cert.Spec.gains (V m c main_arg1) (V m c main_v1) (V m c main_arg3) (V m c main_arg4) (V m c main_v2)) := by
  refine (dats m 0 c).arrAt_eq_of_covers 6 _ (by decide +kernel) fun t hf y => ?_
  blk_simp
  rw [after0_6]
  obtain ⟨i, k, rfl⟩ : ∃ (i : Fin 512) (k : Fin 5120), y = ix2 (n0 := 512) (n1 := 5120) i k := ⟨y 0, y 1, eq_ix2 (n0 := 512) (n1 := 5120) y⟩
  rw [out6_eq, iblk1_eq, iblk2_eq, iblk3_eq, iblk4_eq, gAt_eq, emb6]
  exact congrArg (fun r => Cert.Spec.lin r _ _ _ _ * _) (row_eq m c t i)

/-- The array of the codes. -/
theorem arr8 (c : Dev nD) : ((dats m 0 c).arrAt 8 cfg0.N : Vec Ideal S12288x1536 .fp8e4m3)
    = Cert.Spec.codes (R := 12288) (V m c main_v0) := by
  refine (dats m 0 c).arrAt_eq_of_covers 8 _ (by decide +kernel) fun t hf y => ?_
  blk_simp
  rw [after0_8]
  obtain ⟨i, k, rfl⟩ : ∃ (i : Fin 512) (k : Fin 1536), y = ix2 (n0 := 512) (n1 := 1536) i k := ⟨y 0, y 1, eq_ix2 (n0 := 512) (n1 := 1536) y⟩
  rw [out8_eq, codesV_eq, emb8]
  exact congrArg (fun r => Cert.Spec.code r k) (row_eq m c t i)

/-- The array of the scales. -/
theorem arr9 (c : Dev nD) : ((dats m 0 c).arrAt 9 cfg0.N : Vec Ideal S12288x1 .f32)
    = Cert.Spec.scales (R := 12288) (V m c main_v0) := by
  refine (dats m 0 c).arrAt_eq_of_covers 9 _ (by decide +kernel) fun t hf y => ?_
  blk_simp
  rw [after0_9]
  obtain ⟨i, k, rfl⟩ : ∃ (i : Fin 512) (k : Fin 1), y = ix2 (n0 := 512) (n1 := 1) i k := ⟨y 0, y 1, eq_ix2 (n0 := 512) (n1 := 1) y⟩
  rw [out9_eq, scaleV_eq, emb9]
  exact congrArg Cert.Spec.scale (row_eq m c t i)

/-- The last grid point. -/
def pLast : Fin cfg0.N := ⟨23, by rw [show cfg0.N = 24 from N_0]; norm_num⟩

/-- The array of the norms. -/
theorem arr7 (c : Dev nD) : ((dats m 0 c).arrAt 7 cfg0.N : Vec Ideal S1x5120 .f32)
    = Cert.Spec.norms (V m c main_arg1) (V m c main_v1) (V m c main_arg3) (V m c main_arg4) := by
  refine (dats m 0 c).arrAt_eq_of_after_last 7 pLast (by decide +kernel) _ fun j => ?_
  blk_simp
  rw [after0_7, cnAt_eq]

end Cert.KernelIdeal.Value

end
-- ==== Proof.RefQuant.lean ====
/- What the reference computes, entry by entry, over the extended reals: the scales and the codes are the problem's mathematics. -/
module

public import proofs.«01_k».proof.Proof.Gen.ReferenceIdeal.Frame
public import proofs.«01_k».proof.Proof.Spec
public import proofs.«01_k».proof.Proof.RowMax
public import Idealize.ShloMosaic.Lib.Pipeline.ValueKit

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem

/-- A whole block cast to its own shape is itself. -/
theorem pay2_eq (x : Vec Ideal S12288x1536 .bf16) : k0_pay2 x = x := by
  funext i
  exact congrArg x (Shape.reshapeEquiv_eq_of_rowMajor shapeCasts_S12288x1536_S12288x1536 rfl)

/-- A reading at the same shape changes nothing. -/
theorem pay3_eq (x : Vec Ideal S1x5120 .f32) : k0_pay3 x = x := by
  funext i
  exact congrArg x (Shape.reshapeEquiv_eq_of_rowMajor shapeCasts_S1x5120_S1x5120 rfl)

/-- A reading at the same shape changes nothing. -/
theorem pay4_eq (x : Vec Ideal S1x5120 .f32) : k0_pay4 x = x := by
  funext i
  exact congrArg x (Shape.reshapeEquiv_eq_of_rowMajor shapeCasts_S1x5120_S1x5120 rfl)

/-- A reading at the same shape changes nothing. -/
theorem pay6_eq (x : Vec Ideal S12288x1536 .bf16) : k0_pay6 x = x := by
  unfold k0_pay6; rw [pay2_eq]; rfl

/-- The pattern of minus infinity in float32. -/
theorem negInf : Ideal.ofBits .f32 0xFF800000#32 = ⊥ := by simp [Ideal.ofBits, Ideal.ieee]

/-- A product by a constant, at an index. -/
theorem mulf_const {s : Shape} (z : FVec Ideal s .f32) (c : BitVec 32) (j : s.Idx) :
    mulf z (broadcast s (Scalar.ofBits (F := Ideal) .f32 c)) j = z j * Ideal.ofBits .f32 c := rfl

/-- A token's greatest magnitude, scaled, with the reduction still written. -/
theorem pay7_red (x : Vec Ideal S12288x1536 .bf16) (j : S12288x1.Idx) :
    k0_pay7 x j
      = (shapeCast S12288x1 (multiReduction (F := Ideal) .maximumf [1] S12288 (absf (k0_pay6 x)) 0xFF800000#32 reduces_S12288x1536_S12288 (.inl rfl) rfl) shapeCasts_S12288_S12288x1 j) * Ideal.ofBits .f32 0x3B124925#32 :=
  mulf_const _ _ j

/-- The scaled maximum of each token. -/
theorem pay7_eq (x : Vec Ideal S12288x1536 .bf16) (j : S12288x1.Idx) :
    k0_pay7 x j = Cert.Spec.scaled (Cert.Spec.row (R := 12288) (C := 1536) x (j 0)) := by
  refine (pay7_red x j).trans ?_
  rw [pay6_eq]
  refine congrArg (· * Ideal.ofBits .f32 0x3B124925#32) ?_
  exact Cert.Rows.rowMaxCol (R := 12288) (C := 1536) (φ := .f32) 0xFF800000#32 negInf (absf (F := Ideal) x)
    reduces_S12288x1536_S12288 (.inl rfl) rfl shapeCasts_S12288_S12288x1 j

/-- The candidate exponents of each token. -/
theorem pay8_eq (x : Vec Ideal S12288x1536 .bf16) (j : S12288x254.Idx) :
    k0_pay8 x j = Cert.Exponent.cand (k0_pay7 x (ix2 (n0 := 12288) (n1 := 1) (j 0) 0)) (j 1).val := by
  have e1 : ∀ (v : FVec Ideal S12288x1 .f32) , broadcastTo S12288x254 v broadcasts_S12288x1_S12288x254 j = v (ix2 (j 0) 0) := by
    intro v
    refine congrArg v (funext fun a => ?_)
    match a with
    | ⟨0, _⟩ => rfl
    | ⟨1, _⟩ => rfl
  have e3 : ∀ (v : FVec Ideal S1x254 .f32) , broadcastTo S12288x254 v broadcasts_S1x254_S12288x254 j = v (ix2 0 (j 1)) := by
    intro v
    refine congrArg v (funext fun a => ?_)
    match a with
    | ⟨0, _⟩ => rfl
    | ⟨1, _⟩ => rfl
  have e2 : ∀ (v : FVec Ideal S1x254 .f32) , shapeCast S1x254 v shapeCasts_S1x254_S1x254 = v := by
    intro v
    funext i
    refine congrArg v (Shape.reshapeEquiv_eq_of_rowMajor shapeCasts_S1x254_S1x254 rfl)
  unfold k0_pay8
  simp only [e2]
  have s1 : ∀ (c : IVec S12288x254 1) (a b : FVec Ideal S12288x254 .f32), select c a b j = Scalar.select (c j) (a j) (b j) := fun _ _ _ => rfl
  have s2 : ∀ (a b : FVec Ideal S12288x254 .f32), cmpf .ole a b j = Ideal.cmp .ole (a j) (b j) := fun _ _ => rfl
  have s3 : iota .tc S1x254 32 [1] iota_S1x254_d1_w32 (ix2 (n0 := 1) (n1 := 254) 0 (j 1)) = BitVec.ofNat 32 (j 1).val := by
    show BitVec.ofNat 32 (0 * 254 + (j 1).val) = _
    rw [Nat.zero_mul, Nat.zero_add]
  have s4 : ∀ (u : IVec S1x254 32) (i : S1x254.Idx), subf (F := Ideal) (sitofp .f32 u) (broadcast S1x254 (Scalar.ofBits .f32 0x42FC0000#32)) i
      = (((u i).toInt : ℝ) : EReal) - Ideal.ofBits .f32 0x42FC0000#32 := fun _ _ => rfl
  have s5 : ∀ (u : FVec Ideal S1x254 .f32) (i : S1x254.Idx), exp2 u i = Ideal.exp2 (u i) := fun _ _ => rfl
  rw [s1, s2, e1, e3, e3, s5, s4, s3]
  rfl

/-- The choice of an exponent, at an index. -/
theorem exp_const {s : Shape} (v z : FVec Ideal s .f32) (c1 c2 c3 c4 : BitVec 32) (j : s.Idx) :
    select (ori (cmpf .olt v (broadcast s (Scalar.ofBits (F := Ideal) .f32 c1))) (cmpf .oeq v (broadcast s (Scalar.ofBits (F := Ideal) .f32 c2))))
      (broadcast s (Scalar.ofBits (F := Ideal) .f32 c3)) (addf z (broadcast s (Scalar.ofBits (F := Ideal) .f32 c4))) j
      = if IntOp.ori (Ideal.cmp .olt (v j) (Ideal.ofBits .f32 c1)) (Ideal.cmp .oeq (v j) (Ideal.ofBits .f32 c2)) = 1
        then Ideal.ofBits .f32 c3 else z j + Ideal.ofBits .f32 c4 := rfl

/-- The exponent of each token, with the reduction still written. -/
theorem pay9_red (v : FVec Ideal S12288x1 .f32) (u : FVec Ideal S12288x254 .f32) (j : S12288x1.Idx) :
    k0_pay9 v u j = Cert.Exponent.refE (v j)
      (shapeCast S12288x1 (multiReduction (F := Ideal) .maximumf [1] S12288 u 0xFF800000#32 reduces_S12288x254_S12288 (.inl rfl) rfl) shapeCasts_S12288_S12288x1 j) :=
  exp_const v _ _ _ _ _ j

/-- The exponent of each token, from its greatest candidate. -/
theorem pay9_eq (v : FVec Ideal S12288x1 .f32) (u : FVec Ideal S12288x254 .f32) (j : S12288x1.Idx) :
    k0_pay9 v u j = Cert.Exponent.refE (v j)
      (Finset.univ.fold max (⊥ : EReal) fun k : Fin 254 => u (ix2 (n0 := 12288) (n1 := 254) (j 0) k)) :=
  (pay9_red v u j).trans (congrArg (Cert.Exponent.refE (v j))
    (Cert.Rows.rowMaxCol (R := 12288) (C := 254) (φ := .f32) 0xFF800000#32 negInf u
      reduces_S12288x254_S12288 (.inl rfl) rfl shapeCasts_S12288_S12288x1 j))

/-- The power of two of each token's exponent. -/
theorem pay10_eq (v : FVec Ideal S12288x1 .f32) (u : FVec Ideal S12288x254 .f32) (j : S12288x1.Idx) :
    k0_pay10 v u j = Cert.Exponent.refPow (k0_pay9 v u j) := rfl

/-- What the greatest candidate is: above every candidate, and one of them. -/
theorem cand_max (x : Vec Ideal S12288x1536 .bf16) (i : Fin 12288) :
    (∀ k, k < 254 → Cert.Exponent.cand (k0_pay7 x (ix2 (n0 := 12288) (n1 := 1) i 0)) k
        ≤ Finset.univ.fold max (⊥ : EReal) fun k : Fin 254 => k0_pay8 x (ix2 (n0 := 12288) (n1 := 254) i k))
    ∧ ∃ k, k < 254 ∧ (Finset.univ.fold max (⊥ : EReal) fun k : Fin 254 => k0_pay8 x (ix2 (n0 := 12288) (n1 := 254) i k))
        = Cert.Exponent.cand (k0_pay7 x (ix2 (n0 := 12288) (n1 := 1) i 0)) k := by
  obtain ⟨h1, k, h2⟩ := Cert.Rows.fold_max_spec (C := 254) (by norm_num)
    (fun k : Fin 254 => k0_pay8 x (ix2 (n0 := 12288) (n1 := 254) i k))
  refine ⟨fun k hk => ?_, k.val, k.isLt, ?_⟩
  · exact le_trans (le_of_eq (pay8_eq x (ix2 (n0 := 12288) (n1 := 254) i ⟨k, hk⟩)).symm) (h1 ⟨k, hk⟩)
  · exact h2.trans (pay8_eq x (ix2 (n0 := 12288) (n1 := 254) i k))

/-- The scales. -/
theorem scales_eq (x : Vec Ideal S12288x1536 .bf16) :
    k0_pay10 (k0_pay7 x) (k0_pay8 x) = Cert.Spec.scales (R := 12288) x := by
  funext j
  obtain ⟨i, z, rfl⟩ : ∃ (i : Fin 12288) (z : Fin 1), j = ix2 (n0 := 12288) (n1 := 1) i z := ⟨j 0, j 1, eq_ix2 j⟩
  obtain rfl : z = 0 := Subsingleton.elim _ _
  rw [pay10_eq, pay9_eq]
  refine (Cert.Exponent.scale_eq _ _ (cand_max x i).1 (cand_max x i).2).trans ?_
  rw [pay7_eq]
  rfl

/-- Clipping and rounding to a code, at an index. -/
theorem code_const {s : Shape} (x z : FVec Ideal s .f32) (c1 c2 : BitVec 32) (j : s.Idx) :
    (truncf .fp8e4m3 (minimumf (broadcast s (Scalar.ofBits (F := Ideal) .f32 c1)) (maximumf (broadcast s (Scalar.ofBits (F := Ideal) .f32 c2)) (mulf x z))) (by decide) : FVec Ideal s .fp8e4m3) j
      = min (Ideal.ofBits .f32 c1) (max (Ideal.ofBits .f32 c2) (x j * z j)) := rfl

/-- A power of two of the opposite exponent, at an index. -/
theorem pow_const {s : Shape} (v : FVec Ideal s .f32) (c0 c1 c2 c3 c4 : BitVec 32) (j : s.Idx) :
    select (cmpf .ogt (subf (broadcast s (Scalar.ofBits (F := Ideal) .f32 c0)) v) (broadcast s (Scalar.ofBits (F := Ideal) .f32 c1)))
      (broadcast s (Scalar.ofBits (F := Ideal) .f32 c2))
      (select (cmpf .olt (subf (broadcast s (Scalar.ofBits (F := Ideal) .f32 c0)) v) (broadcast s (Scalar.ofBits (F := Ideal) .f32 c3)))
        (broadcast s (Scalar.ofBits (F := Ideal) .f32 c4)) (exp2 (subf (broadcast s (Scalar.ofBits (F := Ideal) .f32 c0)) v))) j
      = if Ideal.cmp .ogt (Ideal.ofBits .f32 c0 - v j) (Ideal.ofBits .f32 c1) = 1 then Ideal.ofBits .f32 c2
        else if Ideal.cmp .olt (Ideal.ofBits .f32 c0 - v j) (Ideal.ofBits .f32 c3) = 1 then Ideal.ofBits .f32 c4
        else Ideal.exp2 (Ideal.ofBits .f32 c0 - v j) := rfl

/-- A column repeated along the rows, at an index. -/
theorem colRep (v : FVec Ideal S12288x1 .f32) (j : S12288x1536.Idx) :
    broadcastTo S12288x1536 v broadcasts_S12288x1_S12288x1536 j = v (ix2 (n0 := 12288) (n1 := 1) (j 0) 0) := by
  refine congrArg v (funext fun a => ?_)
  match a with
  | ⟨0, _⟩ => rfl
  | ⟨1, _⟩ => rfl

/-- One code, from its token's exponent. -/
theorem pay11_eq (x : FVec Ideal S12288x1536 .f32) (v : FVec Ideal S12288x1 .f32) (u : FVec Ideal S12288x254 .f32)
    (j : S12288x1536.Idx) :
    k0_pay11 x v u j = min (Ideal.ofBits .f32 0x43E00000#32) (max (Ideal.ofBits .f32 0xC3E00000#32)
      (x j * Cert.Exponent.refPow (Ideal.ofBits .f32 0x00000000#32 - k0_pay9 v u (ix2 (n0 := 12288) (n1 := 1) (j 0) 0)))) := by
  refine (code_const x _ _ _ j).trans ?_
  refine congrArg (fun z => min (Ideal.ofBits .f32 0x43E00000#32) (max (Ideal.ofBits .f32 0xC3E00000#32) (x j * z))) ?_
  exact (colRep _ j).trans (pow_const (k0_pay9 v u) _ _ _ _ _ _)

/-- The codes. -/
theorem codes_eq (x : Vec Ideal S12288x1536 .bf16) :
    k0_pay11 (k0_pay6 x) (k0_pay7 x) (k0_pay8 x) = Cert.Spec.codes (R := 12288) x := by
  funext j
  obtain ⟨i, k, rfl⟩ : ∃ (i : Fin 12288) (k : Fin 1536), j = ix2 (n0 := 12288) (n1 := 1536) i k := ⟨j 0, j 1, eq_ix2 j⟩
  refine (pay11_eq _ _ _ _).trans ?_
  refine congrArg (fun z => min (Ideal.ofBits .f32 0x43E00000#32) (max (Ideal.ofBits .f32 0xC3E00000#32) z)) ?_
  rw [pay6_eq]
  refine congrArg (x (ix2 (n0 := 12288) (n1 := 1536) i k) * ·) ?_
  refine (congrArg (fun z => Cert.Exponent.refPow (Ideal.ofBits .f32 0x00000000#32 - z))
    (pay9_eq _ _ (ix2 (n0 := 12288) (n1 := 1) i 0))).trans ?_
  refine (Cert.Exponent.inv_eq _ _ (cand_max x i).1 (cand_max x i).2).trans ?_
  rw [pay7_eq]
  rfl

end Cert.ReferenceIdeal.Value

end
-- ==== Proof.RefMath.lean ====
/- What the reference computes, entry by entry, over the extended reals: the norms and the result are the problem's mathematics. -/
module

public import proofs.«01_k».proof.Proof.Gen.ReferenceIdeal.Frame
public import proofs.«01_k».proof.Proof.Spec
public import proofs.«01_k».proof.Proof.RefQuant
public import Idealize.ShloMosaic.Lib.Pipeline.ValueKit

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem

/-- The norms. -/
theorem norms_eq (w : Vec Ideal S5120x1536 .fp8e4m3) (ws : Vec Ideal S1x5120 .f32) (a : Vec Ideal S48x1536 .bf16)
    (b : Vec Ideal S5120x48 .bf16) : k0_pay5 w ws a b = Cert.Spec.norms w ws a b := by
  funext j
  unfold k0_pay5 k0_pay3
  pointwise
  rfl

/-- The result. -/
theorem outs_eq (x : Vec Ideal S12288x1536 .bf16) (w : Vec Ideal S5120x1536 .fp8e4m3) (ws : Vec Ideal S1x5120 .f32)
    (a : Vec Ideal S48x1536 .bf16) (b : Vec Ideal S5120x48 .bf16) (mg : Vec Ideal S1x5120 .f32) :
    k0_pay1 x a b mg (k0_pay5 w ws a b) (k0_pay12 w ws (k0_pay6 x) (k0_pay7 x) (k0_pay8 x)) (constant S12288x48 .f32 0x00000000#32)
      = Cert.Spec.outs (R := 12288) x w ws a b (Cert.Spec.gains w ws a b mg) := by
  funext j
  unfold k0_pay1 k0_pay12
  rw [codes_eq, scales_eq, norms_eq]
  pointwise
  rfl

end Cert.ReferenceIdeal.Value

end
-- ==== Proof.RefEntry.lean ====
/- What the arrays that the launch of ReferenceIdeal reads hold when it starts. -/
module

public import proofs.«01_k».proof.Proof.Gen.ReferenceIdeal.Frame
public import Idealize.ShloMosaic.Lib.Pipeline.Value
public import Idealize.ShloMosaic.Lib.Pipeline.ValueKit

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ)

/-- The tokens as rows. -/
theorem V_v0 (c : Dev nD) : (V m c main_v0 : Vec Ideal S12288x1536 .bf16)
    = shapeCast S12288x1536 (m ((c : Thread nD τ).loc main_arg0)) shapeCasts_S24x512x1536_S12288x1536 := by
  funext j
  entry_read
  rfl

/-- The weight scales as a row. -/
theorem V_v1 (c : Dev nD) : (V m c main_v1 : Vec Ideal S1x5120 .f32)
    = shapeCast S1x5120 (m ((c : Thread nD τ).loc main_arg2)) shapeCasts_S5120_S1x5120 := by
  funext j
  entry_read
  rfl

/-- The magnitudes as a row. -/
theorem V_v2 (c : Dev nD) : (V m c main_v2 : Vec Ideal S1x5120 .f32)
    = shapeCast S1x5120 (m ((c : Thread nD τ).loc main_arg5)) shapeCasts_S5120_S1x5120 := by
  funext j
  entry_read
  rfl

end Cert.ReferenceIdeal.Value

end
-- ==== Proof.RefArrays.lean ====
/- The arrays that the reference leaves: the problem's mathematics of the arrays it starts from. -/
module

public import proofs.«01_k».proof.Proof.RefMath
public import proofs.«01_k».proof.Proof.RefEntry
public import Idealize.ShloMosaic.Lib.Pipeline.Value
public import Idealize.ShloMosaic.Lib.Pipeline.ValueKit

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem

/-- The two-coordinate origin is zero in each coordinate. -/
theorem zero2 : (![0, 0] : Fin 2 → Nat) = fun _ => 0 := by funext i; fin_cases i <;> rfl

/-- The result's block. -/
theorem out0_6_eq (x0 : Vec Ideal S12288x1536 .bf16) (x1 : Vec Ideal S5120x1536 .fp8e4m3) (x2 : Vec Ideal S1x5120 .f32)
    (x3 : Vec Ideal S48x1536 .bf16) (x4 : Vec Ideal S5120x48 .bf16) (x5 : Vec Ideal S1x5120 .f32) :
    out0_6 x0 x1 x2 x3 x4 x5 = Cert.Spec.outs (R := 12288) x0 x1 x2 x3 x4 (Cert.Spec.gains x1 x2 x3 x4 x5) := by
  unfold out0_6 k0_pay13 k0_pay14 k0_pay15 k0_pay16
  rw [View.canon_unit_zero zero2, View.ld_unit_zero zero2, View.ld_unit_zero zero2, View.ld_unit_zero zero2, View.ld_unit_zero zero2,
    View.ld_unit_zero zero2, View.ld_unit_zero zero2, pay2_eq, pay3_eq, pay4_eq]
  exact outs_eq x0 x1 x2 x3 x4 x5

/-- The norms' block. -/
theorem out0_7_eq (x0 : Vec Ideal S12288x1536 .bf16) (x1 : Vec Ideal S5120x1536 .fp8e4m3) (x2 : Vec Ideal S1x5120 .f32)
    (x3 : Vec Ideal S48x1536 .bf16) (x4 : Vec Ideal S5120x48 .bf16) (x5 : Vec Ideal S1x5120 .f32) :
    out0_7 x0 x1 x2 x3 x4 x5 = Cert.Spec.norms x1 x2 x3 x4 := by
  unfold out0_7 k0_pay13
  rw [View.canon_unit_zero zero2, View.ld_unit_zero zero2, View.ld_unit_zero zero2, View.ld_unit_zero zero2, View.ld_unit_zero zero2]
  exact norms_eq x1 x2 x3 x4

/-- The codes' block. -/
theorem out0_8_eq (x0 : Vec Ideal S12288x1536 .bf16) (x1 : Vec Ideal S5120x1536 .fp8e4m3) (x2 : Vec Ideal S1x5120 .f32)
    (x3 : Vec Ideal S48x1536 .bf16) (x4 : Vec Ideal S5120x48 .bf16) (x5 : Vec Ideal S1x5120 .f32) :
    out0_8 x0 x1 x2 x3 x4 x5 = Cert.Spec.codes (R := 12288) x0 := by
  unfold out0_8 k0_pay14 k0_pay15 k0_pay16
  rw [View.canon_unit_zero zero2, View.ld_unit_zero zero2]
  exact codes_eq x0

/-- The scales' block. -/
theorem out0_9_eq (x0 : Vec Ideal S12288x1536 .bf16) (x1 : Vec Ideal S5120x1536 .fp8e4m3) (x2 : Vec Ideal S1x5120 .f32)
    (x3 : Vec Ideal S48x1536 .bf16) (x4 : Vec Ideal S5120x48 .bf16) (x5 : Vec Ideal S1x5120 .f32) :
    out0_9 x0 x1 x2 x3 x4 x5 = Cert.Spec.scales (R := 12288) x0 := by
  unfold out0_9 k0_pay15 k0_pay16
  rw [View.canon_unit_zero zero2, View.ld_unit_zero zero2]
  exact scales_eq x0

variable (m : (ℓ : Loc nD τ sig) → Buf (Elt Ideal) ℓ)

/-- The one grid point. -/
def p0 : Fin cfg0.N := ⟨0, by decide⟩

/-- x's window stays at the origin. -/
theorem idx0 : ∀ t, win0_0.index t = ![0, 0] := (by decide +kernel : ∀ t : Fin grid0.N, win0_0.index t = ![0, 0])

/-- Window 0's one block is its array. -/
theorem iblk0_eq (c : Dev nD) (t : Fin cfg0.N) : (iblk m c 0 t : Vec Ideal S12288x1536 .bf16) = V m c main_v0 := by
  funext j
  blk_ext [iblk, idx0 t]

/-- The weight codes' window stays at the origin. -/
theorem idx1 : ∀ t, win0_1.index t = ![0, 0] := (by decide +kernel : ∀ t : Fin grid0.N, win0_1.index t = ![0, 0])

/-- Window 1's one block is its array. -/
theorem iblk1_eq (c : Dev nD) (t : Fin cfg0.N) : (iblk m c 1 t : Vec Ideal S5120x1536 .fp8e4m3) = V m c main_arg1 := by
  funext j
  blk_ext [iblk, idx1 t]

/-- The weight scales' window stays at the origin. -/
theorem idx2 : ∀ t, win0_2.index t = ![0, 0] := (by decide +kernel : ∀ t : Fin grid0.N, win0_2.index t = ![0, 0])

/-- Window 2's one block is its array. -/
theorem iblk2_eq (c : Dev nD) (t : Fin cfg0.N) : (iblk m c 2 t : Vec Ideal S1x5120 .f32) = V m c main_v1 := by
  funext j
  blk_ext [iblk, idx2 t]

/-- lora_A's window stays at the origin. -/
theorem idx3 : ∀ t, win0_3.index t = ![0, 0] := (by decide +kernel : ∀ t : Fin grid0.N, win0_3.index t = ![0, 0])

/-- Window 3's one block is its array. -/
theorem iblk3_eq (c : Dev nD) (t : Fin cfg0.N) : (iblk m c 3 t : Vec Ideal S48x1536 .bf16) = V m c main_arg3 := by
  funext j
  blk_ext [iblk, idx3 t]

/-- lora_B's window stays at the origin. -/
theorem idx4 : ∀ t, win0_4.index t = ![0, 0] := (by decide +kernel : ∀ t : Fin grid0.N, win0_4.index t = ![0, 0])

/-- Window 4's one block is its array. -/
theorem iblk4_eq (c : Dev nD) (t : Fin cfg0.N) : (iblk m c 4 t : Vec Ideal S5120x48 .bf16) = V m c main_arg4 := by
  funext j
  blk_ext [iblk, idx4 t]

/-- The magnitudes' window stays at the origin. -/
theorem idx5 : ∀ t, win0_5.index t = ![0, 0] := (by decide +kernel : ∀ t : Fin grid0.N, win0_5.index t = ![0, 0])

/-- Window 5's one block is its array. -/
theorem iblk5_eq (c : Dev nD) (t : Fin cfg0.N) : (iblk m c 5 t : Vec Ideal S1x5120 .f32) = V m c main_v2 := by
  funext j
  blk_ext [iblk, idx5 t]

/-- The array of the result. -/
theorem arr6 (c : Dev nD) : ((dats m 0 c).arrAt 6 cfg0.N : Vec Ideal S12288x5120 .bf16)
    = Cert.Spec.outs (R := 12288) (V m c main_v0) (V m c main_arg1) (V m c main_v1) (V m c main_arg3) (V m c main_arg4)
        (Cert.Spec.gains (V m c main_arg1) (V m c main_v1) (V m c main_arg3) (V m c main_arg4) (V m c main_v2)) := by
  refine (dats m 0 c).arrAt_eq_of_after_last 6 p0 (by decide +kernel) _ fun j => ?_
  blk_simp
  rw [after0_6, out0_6_eq, iblk0_eq, iblk1_eq, iblk2_eq, iblk3_eq, iblk4_eq, iblk5_eq]

/-- The array of the norms. -/
theorem arr7 (c : Dev nD) : ((dats m 0 c).arrAt 7 cfg0.N : Vec Ideal S1x5120 .f32)
    = Cert.Spec.norms (V m c main_arg1) (V m c main_v1) (V m c main_arg3) (V m c main_arg4) := by
  refine (dats m 0 c).arrAt_eq_of_after_last 7 p0 (by decide +kernel) _ fun j => ?_
  blk_simp
  rw [after0_7, out0_7_eq, iblk1_eq, iblk2_eq, iblk3_eq, iblk4_eq]

/-- The array of the codes. -/
theorem arr8 (c : Dev nD) : ((dats m 0 c).arrAt 8 cfg0.N : Vec Ideal S12288x1536 .fp8e4m3)
    = Cert.Spec.codes (R := 12288) (V m c main_v0) := by
  refine (dats m 0 c).arrAt_eq_of_after_last 8 p0 (by decide +kernel) _ fun j => ?_
  blk_simp
  rw [after0_8, out0_8_eq, iblk0_eq]

/-- The array of the scales. -/
theorem arr9 (c : Dev nD) : ((dats m 0 c).arrAt 9 cfg0.N : Vec Ideal S12288x1 .f32)
    = Cert.Spec.scales (R := 12288) (V m c main_v0) := by
  refine (dats m 0 c).arrAt_eq_of_after_last 9 p0 (by decide +kernel) _ fun j => ?_
  blk_simp
  rw [after0_9, out0_9_eq, iblk0_eq]

end Cert.ReferenceIdeal.Value

end
-- ==== Proof.Equation.lean ====
/- The equation: from equal arguments the kernel and the reference leave equal results. -/
module

public import proofs.«01_k».proof.Defs
public import proofs.«01_k».proof.Proof.KerArrays
public import proofs.«01_k».proof.Proof.RefArrays
public import proofs.«01_k».proof.Proof.Gen.ReferenceIdeal.Value

@[expose] public section

set_option maxRecDepth 16384

noncomputable section

namespace Cert.Proof

open Idealize.ShloMosaic Idealize.ShloMosaic.TcCoe Idealize.SL.Sem

/-- The results are a function of six arrays. -/
theorem outs_congr {x x' : Vec Ideal Cert.KernelIdeal.S12288x1536 .bf16} {w w' : Vec Ideal Cert.KernelIdeal.S5120x1536 .fp8e4m3}
    {ws ws' : Vec Ideal Cert.KernelIdeal.S1x5120 .f32} {a a' : Vec Ideal Cert.KernelIdeal.S48x1536 .bf16} {b b' : Vec Ideal Cert.KernelIdeal.S5120x48 .bf16}
    {mg mg' : Vec Ideal Cert.KernelIdeal.S1x5120 .f32} (h0 : x = x') (h1 : w = w') (h2 : ws = ws') (h3 : a = a') (h4 : b = b') (h5 : mg = mg') :
    Cert.Spec.outs (R := 12288) x w ws a b (Cert.Spec.gains w ws a b mg)
      = Cert.Spec.outs (R := 12288) x' w' ws' a' b' (Cert.Spec.gains w' ws' a' b' mg') := by
  subst h0 h1 h2 h3 h4 h5; rfl

/-- The norms are a function of four arrays. -/
theorem norms_congr {w w' : Vec Ideal Cert.KernelIdeal.S5120x1536 .fp8e4m3}
    {ws ws' : Vec Ideal Cert.KernelIdeal.S1x5120 .f32} {a a' : Vec Ideal Cert.KernelIdeal.S48x1536 .bf16} {b b' : Vec Ideal Cert.KernelIdeal.S5120x48 .bf16}
    (h1 : w = w') (h2 : ws = ws') (h3 : a = a') (h4 : b = b') :
    Cert.Spec.norms w ws a b = Cert.Spec.norms w' ws' a' b' := by
  subst h1 h2 h3 h4; rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The tokens' rows agree where the tokens do. -/
theorem rows_eq (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Gen.V m' c Cert.ReferenceIdeal.main_v0 : Vec Ideal Cert.KernelIdeal.S12288x1536 .bf16)
      = Cert.KernelIdeal.Gen.V m c Cert.KernelIdeal.main_v0 :=
  (Cert.ReferenceIdeal.Value.V_v0 m' c).trans
    ((congrArg (fun z : Vec Ideal Cert.KernelIdeal.S24x512x1536 .bf16 =>
      shapeCast Cert.KernelIdeal.S12288x1536 z Cert.KernelIdeal.Gen.facts.shapeCasts_S24x512x1536_S12288x1536) h).trans
      (Cert.KernelIdeal.Value.V_v0 m c).symm)

/-- The weight scales' rows agree where the weight scales do. -/
theorem wscale_eq (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Gen.V m' c Cert.ReferenceIdeal.main_v1 : Vec Ideal Cert.KernelIdeal.S1x5120 .f32)
      = Cert.KernelIdeal.Gen.V m c Cert.KernelIdeal.main_v1 :=
  (Cert.ReferenceIdeal.Value.V_v1 m' c).trans
    ((congrArg (fun z : Vec Ideal Cert.KernelIdeal.S5120 .f32 =>
      shapeCast Cert.KernelIdeal.S1x5120 z Cert.KernelIdeal.Gen.facts.shapeCasts_S5120_S1x5120) h).trans
      (Cert.KernelIdeal.Value.V_v1 m c).symm)

/-- The magnitudes' rows agree where the magnitudes do. -/
theorem mag_eq (h : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    (Cert.ReferenceIdeal.Gen.V m' c Cert.ReferenceIdeal.main_v2 : Vec Ideal Cert.KernelIdeal.S1x5120 .f32)
      = Cert.KernelIdeal.Gen.V m c Cert.KernelIdeal.main_v2 :=
  (Cert.ReferenceIdeal.Value.V_v2 m' c).trans
    ((congrArg (fun z : Vec Ideal Cert.KernelIdeal.S5120 .f32 =>
      shapeCast Cert.KernelIdeal.S1x5120 z Cert.KernelIdeal.Gen.facts.shapeCasts_S5120_S1x5120) h).trans
      (Cert.KernelIdeal.Value.V_v2 m c).symm)

/-- The weight codes agree at the launch where they do at the start. -/
theorem codesW_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Gen.V m' c Cert.ReferenceIdeal.main_arg1 : Vec Ideal Cert.KernelIdeal.S5120x1536 .fp8e4m3)
      = Cert.KernelIdeal.Gen.V m c Cert.KernelIdeal.main_arg1 :=
  (Cert.ReferenceIdeal.Gen.V_main_arg1 m' c).trans (h.trans (Cert.KernelIdeal.Gen.V_main_arg1 m c).symm)

/-- lora_A agrees at the launch where it does at the start. -/
theorem loraA_eq (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    (Cert.ReferenceIdeal.Gen.V m' c Cert.ReferenceIdeal.main_arg3 : Vec Ideal Cert.KernelIdeal.S48x1536 .bf16)
      = Cert.KernelIdeal.Gen.V m c Cert.KernelIdeal.main_arg3 :=
  (Cert.ReferenceIdeal.Gen.V_main_arg3 m' c).trans (h.trans (Cert.KernelIdeal.Gen.V_main_arg3 m c).symm)

/-- lora_B agrees at the launch where it does at the start. -/
theorem loraB_eq (h : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    (Cert.ReferenceIdeal.Gen.V m' c Cert.ReferenceIdeal.main_arg4 : Vec Ideal Cert.KernelIdeal.S5120x48 .bf16)
      = Cert.KernelIdeal.Gen.V m c Cert.KernelIdeal.main_arg4 :=
  (Cert.ReferenceIdeal.Gen.V_main_arg4 m' c).trans (h.trans (Cert.KernelIdeal.Gen.V_main_arg4 m c).symm)

/-- The two programs' results are equal. -/
theorem equal6 (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    ((Cert.ReferenceIdeal.Gen.dats m' 0 c).arrAt 6 Cert.ReferenceIdeal.cfg0.N : Vec Ideal Cert.KernelIdeal.S12288x5120 .bf16)
      = (Cert.KernelIdeal.Value.dats m 0 c).arrAt 6 Cert.KernelIdeal.cfg0.N := by
  refine (Cert.ReferenceIdeal.Value.arr6 m' c).trans (Eq.trans ?_ (Cert.KernelIdeal.Value.arr6 m c).symm)
  exact outs_congr (rows_eq m m' c h0) (codesW_eq m m' c h1) (wscale_eq m m' c h2) (loraA_eq m m' c h3) (loraB_eq m m' c h4) (mag_eq m m' c h5)

/-- The two programs' norms are equal. -/
theorem equal7 (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    ((Cert.ReferenceIdeal.Gen.dats m' 0 c).arrAt 7 Cert.ReferenceIdeal.cfg0.N : Vec Ideal Cert.KernelIdeal.S1x5120 .f32)
      = (Cert.KernelIdeal.Value.dats m 0 c).arrAt 7 Cert.KernelIdeal.cfg0.N := by
  refine (Cert.ReferenceIdeal.Value.arr7 m' c).trans (Eq.trans ?_ (Cert.KernelIdeal.Value.arr7 m c).symm)
  exact norms_congr (codesW_eq m m' c h1) (wscale_eq m m' c h2) (loraA_eq m m' c h3) (loraB_eq m m' c h4)

/-- The two programs' codes are equal. -/
theorem equal8 (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    ((Cert.ReferenceIdeal.Gen.dats m' 0 c).arrAt 8 Cert.ReferenceIdeal.cfg0.N : Vec Ideal Cert.KernelIdeal.S12288x1536 .fp8e4m3)
      = (Cert.KernelIdeal.Value.dats m 0 c).arrAt 8 Cert.KernelIdeal.cfg0.N := by
  refine (Cert.ReferenceIdeal.Value.arr8 m' c).trans (Eq.trans ?_ (Cert.KernelIdeal.Value.arr8 m c).symm)
  exact congrArg (Cert.Spec.codes (R := 12288)) (rows_eq m m' c h0)

/-- The two programs' scales are equal. -/
theorem equal9 (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    ((Cert.ReferenceIdeal.Gen.dats m' 0 c).arrAt 9 Cert.ReferenceIdeal.cfg0.N : Vec Ideal Cert.KernelIdeal.S12288x1 .f32)
      = (Cert.KernelIdeal.Value.dats m 0 c).arrAt 9 Cert.KernelIdeal.cfg0.N := by
  refine (Cert.ReferenceIdeal.Value.arr9 m' c).trans (Eq.trans ?_ (Cert.KernelIdeal.Value.arr9 m c).symm)
  exact congrArg (Cert.Spec.scales (R := 12288)) (rows_eq m m' c h0)

end

/-- The kernel's run: its four results end at their arrays, and its arguments as they began. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3_0) = (Cert.KernelIdeal.Value.dats m 0 c).arrAt 6 Cert.KernelIdeal.cfg0.N
      ∧ r.2.mem ((c.tc : Thread Cert.KernelIdeal.nD Cert.KernelIdeal.τ).loc Cert.KernelIdeal.main_v3_1) = (Cert.KernelIdeal.Value.dats m 0 c).arrAt 7 Cert.KernelIdeal.cfg0.N
      ∧ r.2.mem ((c.tc : Thread Cert.KernelIdeal.nD Cert.KernelIdeal.τ).loc Cert.KernelIdeal.main_v3_2) = (Cert.KernelIdeal.Value.dats m 0 c).arrAt 8 Cert.KernelIdeal.cfg0.N
      ∧ r.2.mem ((c.tc : Thread Cert.KernelIdeal.nD Cert.KernelIdeal.τ).loc Cert.KernelIdeal.main_v3_3) = (Cert.KernelIdeal.Value.dats m 0 c).arrAt 9 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run _ _ _).mono (fun _ h c => ⟨(h.1 c).1 6, (h.1 c).1 7, (h.1 c).1 8, (h.1 c).1 9, h.2 c⟩)
    (θ_run_and (Cert.KernelIdeal.Value.run_main m g)
      (Cert.KernelIdeal.Gen.frame_of m g (Cert.KernelIdeal.Value.dats m) (Cert.KernelIdeal.Value.A_eq m) (Cert.KernelIdeal.Value.run_main m g)))

/-- The algebraic claim: from equal arguments both programs run, and their four results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Value.dats m 0 c).arrAt 6 Cert.KernelIdeal.cfg0.N, fun c => (Cert.KernelIdeal.Value.dats m 0 c).arrAt 7 Cert.KernelIdeal.cfg0.N,
    fun c => (Cert.KernelIdeal.Value.dats m 0 c).arrAt 8 Cert.KernelIdeal.cfg0.N, fun c => (Cert.KernelIdeal.Value.dats m 0 c).arrAt 9 Cert.KernelIdeal.cfg0.N, kernel_run m g, ?_⟩
  refine (θ_run (Cert.ReferenceIdeal.defs (F := Ideal)) _ _).mono (fun r h c => ?_) (Cert.ReferenceIdeal.Gen.run_main m' g')
  obtain ⟨h0, h1, h2, h3, h4, h5⟩ := hargs c
  exact ⟨(Cert.ReferenceIdeal.Value.post6 m' r h c).trans (equal6 m m' c h0 h1 h2 h3 h4 h5),
    (Cert.ReferenceIdeal.Value.post7 m' r h c).trans (equal7 m m' c h1 h2 h3 h4),
    (Cert.ReferenceIdeal.Value.post8 m' r h c).trans (equal8 m m' c h0),
    (Cert.ReferenceIdeal.Value.post9 m' r h c).trans (equal9 m m' c h0),
    Cert.ReferenceIdeal.Value.kept_main_arg0 m' r h c, Cert.ReferenceIdeal.Value.kept_main_arg1 m' r h c, Cert.ReferenceIdeal.Value.kept_main_arg2 m' r h c,
    Cert.ReferenceIdeal.Value.kept_main_arg3 m' r h c, Cert.ReferenceIdeal.Value.kept_main_arg4 m' r h c, Cert.ReferenceIdeal.Value.kept_main_arg5 m' r h c⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.ValueRun
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate: the three frames, the ideal program, and the equation with the reference. -/
theorem claim : Cert.Claim := ⟨Cert.Kernel.Gen.facts, Cert.KernelIdeal.Gen.facts, Cert.ReferenceIdeal.Gen.facts,
  kernel_frame, fun m ρ _ => Cert.KernelIdeal.Value.frame m ρ,
  fun m ρ _ => Cert.ReferenceIdeal.Gen.frame m ρ, trivial, algebraic⟩

end Cert.Proof

end
